-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x12032 : Shape := ⟨3, ![32, 1, 12032]⟩
abbrev S12032x7840x3 : Shape := ⟨3, ![12032, 7840, 3]⟩
abbrev S31360 : Shape := ⟨1, ![31360]⟩
abbrev S32x12032 : Shape := ⟨2, ![32, 12032]⟩
abbrev S3x7840x12032 : Shape := ⟨3, ![3, 7840, 12032]⟩
abbrev S4x32x7840 : Shape := ⟨3, ![4, 32, 7840]⟩
abbrev S3x128x12032 : Shape := ⟨3, ![3, 128, 12032]⟩
abbrev S4x32x128 : Shape := ⟨3, ![4, 32, 128]⟩
abbrev S32x256 : Shape := ⟨2, ![32, 256]⟩
abbrev S1x128x256 : Shape := ⟨3, ![1, 128, 256]⟩
abbrev S128x256 : Shape := ⟨2, ![128, 256]⟩
abbrev S256x128 : Shape := ⟨2, ![256, 128]⟩
abbrev S64x128 : Shape := ⟨2, ![64, 128]⟩
abbrev S256x256 : Shape := ⟨2, ![256, 256]⟩
abbrev S32x128 : Shape := ⟨2, ![32, 128]⟩
abbrev S1x32x128 : Shape := ⟨3, ![1, 32, 128]⟩
abbrev S32x7840x4 : Shape := ⟨3, ![32, 7840, 4]⟩
abbrev S32x1x31360 : Shape := ⟨3, ![32, 1, 31360]⟩
abbrev S1x1x31360 : Shape := ⟨3, ![1, 1, 31360]⟩

abbrev nBuf : Space → Nat
  | .hbm => 12
  | .vmem => 5
  | .smem => 0
  | _ => 0

abbrev bufTy : (tb : Table) → Fin (tcTables nBuf tb) → BufTy
  | .hbm, ⟨0, _⟩ => ⟨S32x1x12032, .bf16⟩
  | .hbm, ⟨1, _⟩ => ⟨S12032x7840x3, .i8⟩
  | .hbm, ⟨2, _⟩ => ⟨S31360, .f32⟩
  | .hbm, ⟨3, _⟩ => ⟨S32x12032, .bf16⟩
  | .hbm, ⟨4, _⟩ => ⟨S3x7840x12032, .i8⟩
  | .hbm, ⟨5, _⟩ => ⟨S4x32x7840, .f32⟩
  | .hbm, ⟨6, _⟩ => ⟨S32x7840x4, .f32⟩
  | .hbm, ⟨7, _⟩ => ⟨S32x1x31360, .f32⟩
  | .hbm, ⟨8, _⟩ => ⟨S1x1x31360, .f32⟩
  | .hbm, ⟨9, _⟩ => ⟨S32x1x31360, .f32⟩
  | .hbm, ⟨10, _⟩ => ⟨S32x1x31360, .f32⟩
  | .hbm, ⟨11, _⟩ => ⟨S32x1x31360, .bf16⟩
  | .local _ .vmem, ⟨0, _⟩ => ⟨S32x12032, .bf16⟩
  | .local _ .vmem, ⟨1, _⟩ => ⟨S3x128x12032, .i8⟩
  | .local _ .vmem, ⟨2, _⟩ => ⟨S3x128x12032, .i8⟩
  | .local _ .vmem, ⟨3, _⟩ => ⟨S4x32x128, .f32⟩
  | .local _ .vmem, ⟨4, _⟩ => ⟨S4x32x128, .f32⟩
  | _, _ => ⟨S32x1x12032, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S32x12032 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x128x12032 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x1x12032 : Shape := ⟨3, ![32, 1, 12032]⟩
abbrev S12032x7840x3 : Shape := ⟨3, ![12032, 7840, 3]⟩
abbrev S31360 : Shape := ⟨1, ![31360]⟩
abbrev S12032x7840x1 : Shape := ⟨3, ![12032, 7840, 1]⟩
abbrev S12032x7840 : Shape := ⟨2, ![12032, 7840]⟩
abbrev S_ : Shape := ⟨0, ![]⟩
abbrev S32x1x7840 : Shape := ⟨3, ![32, 1, 7840]⟩
abbrev S32x1x7840x1 : Shape := ⟨4, ![32, 1, 7840, 1]⟩
abbrev S32x1x7840x4 : Shape := ⟨4, ![32, 1, 7840, 4]⟩
abbrev S32x1x31360 : Shape := ⟨3, ![32, 1, 31360]⟩
abbrev S1x1x31360 : Shape := ⟨3, ![1, 1, 31360]⟩

abbrev nBuf : Space → Nat
  | .hbm => 256
  | .vmem => 0
  | .smem => 0
  | _ => 0

abbrev hbmTy0_0 (i : Nat) : BufTy := match i % 128 with
  | 0 => ⟨S32x1x12032, .bf16⟩
  | 1 => ⟨S12032x7840x3, .i8⟩
  | 2 => ⟨S31360, .f32⟩
  | 3 => ⟨S12032x7840x1, .i8⟩
  | 4 => ⟨S12032x7840, .i8⟩
  | 5 => ⟨S12032x7840, .i32⟩
  | 6 => ⟨S12032x7840x1, .i8⟩
  | 7 => ⟨S12032x7840, .i8⟩
  | 8 => ⟨S12032x7840, .i32⟩
  | 9 => ⟨S12032x7840x1, .i8⟩
  | 10 => ⟨S12032x7840, .i8⟩
  | 11 => ⟨S12032x7840, .i32⟩
  | 12 => ⟨S_, .i32⟩
  | 13 => ⟨S12032x7840, .i32⟩
  | 14 => ⟨S12032x7840, .i32⟩
  | 15 => ⟨S_, .i32⟩
  | 16 => ⟨S12032x7840, .i32⟩
  | 17 => ⟨S12032x7840, .i32⟩
  | 18 => ⟨S_, .i32⟩
  | 19 => ⟨S12032x7840, .i32⟩
  | 20 => ⟨S12032x7840, .i32⟩
  | 21 => ⟨S_, .i32⟩
  | 22 => ⟨S12032x7840, .i32⟩
  | 23 => ⟨S12032x7840, .i32⟩
  | 24 => ⟨S12032x7840, .i32⟩
  | 25 => ⟨S_, .i32⟩
  | 26 => ⟨S12032x7840, .i32⟩
  | 27 => ⟨S12032x7840, .i32⟩
  | 28 => ⟨S_, .i32⟩
  | 29 => ⟨S12032x7840, .i32⟩
  | 30 => ⟨S12032x7840, .i32⟩
  | 31 => ⟨S_, .i32⟩
  | 32 => ⟨S12032x7840, .i32⟩
  | 33 => ⟨S12032x7840, .i32⟩
  | 34 => ⟨S12032x7840, .i32⟩
  | 35 => ⟨S_, .i32⟩
  | 36 => ⟨S12032x7840, .i32⟩
  | 37 => ⟨S12032x7840, .i32⟩
  | 38 => ⟨S_, .i32⟩
  | 39 => ⟨S12032x7840, .i32⟩
  | 40 => ⟨S12032x7840, .i32⟩
  | 41 => ⟨S_, .i32⟩
  | 42 => ⟨S12032x7840, .i32⟩
  | 43 => ⟨S12032x7840, .i32⟩
  | 44 => ⟨S_, .i32⟩
  | 45 => ⟨S12032x7840, .i32⟩
  | 46 => ⟨S12032x7840, .i32⟩
  | 47 => ⟨S_, .i32⟩
  | 48 => ⟨S12032x7840, .i32⟩
  | 49 => ⟨S12032x7840, .i32⟩
  | 50 => ⟨S_, .i32⟩
  | 51 => ⟨S12032x7840, .i32⟩
  | 52 => ⟨S12032x7840, .i32⟩
  | 53 => ⟨S_, .i32⟩
  | 54 => ⟨S12032x7840, .i32⟩
  | 55 => ⟨S12032x7840, .i32⟩
  | 56 => ⟨S_, .i32⟩
  | 57 => ⟨S12032x7840, .i32⟩
  | 58 => ⟨S12032x7840, .i32⟩
  | 59 => ⟨S_, .i32⟩
  | 60 => ⟨S12032x7840, .i32⟩
  | 61 => ⟨S12032x7840, .i32⟩
  | 62 => ⟨S_, .i32⟩
  | 63 => ⟨S12032x7840, .i32⟩
  | 64 => ⟨S12032x7840, .i1⟩
  | 65 => ⟨S_, .i32⟩
  | 66 => ⟨S12032x7840, .i32⟩
  | 67 => ⟨S12032x7840, .i1⟩
  | 68 => ⟨S_, .i32⟩
  | 69 => ⟨S12032x7840, .i32⟩
  | 70 => ⟨S12032x7840, .i1⟩
  | 71 => ⟨S_, .i32⟩
  | 72 => ⟨S_, .i32⟩
  | 73 => ⟨S12032x7840, .i32⟩
  | 74 => ⟨S12032x7840, .i32⟩
  | 75 => ⟨S12032x7840, .i32⟩
  | 76 => ⟨S_, .i32⟩
  | 77 => ⟨S12032x7840, .i32⟩
  | 78 => ⟨S12032x7840, .i32⟩
  | 79 => ⟨S_, .i32⟩
  | 80 => ⟨S12032x7840, .i32⟩
  | 81 => ⟨S12032x7840, .i32⟩
  | 82 => ⟨S_, .i32⟩
  | 83 => ⟨S12032x7840, .i32⟩
  | 84 => ⟨S12032x7840, .i1⟩
  | 85 => ⟨S12032x7840, .i32⟩
  | 86 => ⟨S12032x7840, .i32⟩
  | 87 => ⟨S12032x7840, .i16⟩
  | 88 => ⟨S12032x7840, .bf16⟩
  | 89 => ⟨S32x1x7840, .f32⟩
  | 90 => ⟨S_, .i32⟩
  | 91 => ⟨S12032x7840, .i32⟩
  | 92 => ⟨S12032x7840, .i32⟩
  | 93 => ⟨S_, .i32⟩
  | 94 => ⟨S12032x7840, .i32⟩
  | 95 => ⟨S12032x7840, .i32⟩
  | 96 => ⟨S_, .i32⟩
  | 97 => ⟨S12032x7840, .i32⟩
  | 98 => ⟨S12032x7840, .i32⟩
  | 99 => ⟨S_, .i32⟩
  | 100 => ⟨S12032x7840, .i32⟩
  | 101 => ⟨S12032x7840, .i32⟩
  | 102 => ⟨S_, .i32⟩
  | 103 => ⟨S12032x7840, .i32⟩
  | 104 => ⟨S12032x7840, .i32⟩
  | 105 => ⟨S_, .i32⟩
  | 106 => ⟨S12032x7840, .i32⟩
  | 107 => ⟨S12032x7840, .i32⟩
  | 108 => ⟨S_, .i32⟩
  | 109 => ⟨S12032x7840, .i32⟩
  | 110 => ⟨S12032x7840, .i32⟩
  | 111 => ⟨S_, .i32⟩
  | 112 => ⟨S12032x7840, .i32⟩
  | 113 => ⟨S12032x7840, .i32⟩
  | 114 => ⟨S_, .i32⟩
  | 115 => ⟨S12032x7840, .i32⟩
  | 116 => ⟨S12032x7840, .i1⟩
  | 117 => ⟨S_, .i32⟩
  | 118 => ⟨S12032x7840, .i32⟩
  | 119 => ⟨S12032x7840, .i1⟩
  | 120 => ⟨S_, .i32⟩
  | 121 => ⟨S12032x7840, .i32⟩
  | 122 => ⟨S12032x7840, .i1⟩
  | 123 => ⟨S_, .i32⟩
  | 124 => ⟨S_, .i32⟩
  | 125 => ⟨S12032x7840, .i32⟩
  | 126 => ⟨S12032x7840, .i32⟩
  | 127 => ⟨S12032x7840, .i32⟩
  | _ => ⟨S32x1x12032, .bf16⟩

abbrev hbmTy0_1 (i : Nat) : BufTy := match i % 128 with
  | 0 => ⟨S_, .i32⟩
  | 1 => ⟨S12032x7840, .i32⟩
  | 2 => ⟨S12032x7840, .i32⟩
  | 3 => ⟨S_, .i32⟩
  | 4 => ⟨S12032x7840, .i32⟩
  | 5 => ⟨S12032x7840, .i32⟩
  | 6 => ⟨S_, .i32⟩
  | 7 => ⟨S12032x7840, .i32⟩
  | 8 => ⟨S12032x7840, .i1⟩
  | 9 => ⟨S12032x7840, .i32⟩
  | 10 => ⟨S12032x7840, .i32⟩
  | 11 => ⟨S12032x7840, .i16⟩
  | 12 => ⟨S12032x7840, .bf16⟩
  | 13 => ⟨S32x1x7840, .f32⟩
  | 14 => ⟨S_, .i32⟩
  | 15 => ⟨S12032x7840, .i32⟩
  | 16 => ⟨S12032x7840, .i32⟩
  | 17 => ⟨S_, .i32⟩
  | 18 => ⟨S12032x7840, .i32⟩
  | 19 => ⟨S12032x7840, .i32⟩
  | 20 => ⟨S_, .i32⟩
  | 21 => ⟨S12032x7840, .i32⟩
  | 22 => ⟨S12032x7840, .i32⟩
  | 23 => ⟨S_, .i32⟩
  | 24 => ⟨S12032x7840, .i32⟩
  | 25 => ⟨S12032x7840, .i32⟩
  | 26 => ⟨S_, .i32⟩
  | 27 => ⟨S12032x7840, .i32⟩
  | 28 => ⟨S12032x7840, .i32⟩
  | 29 => ⟨S_, .i32⟩
  | 30 => ⟨S12032x7840, .i32⟩
  | 31 => ⟨S12032x7840, .i32⟩
  | 32 => ⟨S_, .i32⟩
  | 33 => ⟨S12032x7840, .i32⟩
  | 34 => ⟨S12032x7840, .i32⟩
  | 35 => ⟨S_, .i32⟩
  | 36 => ⟨S12032x7840, .i32⟩
  | 37 => ⟨S12032x7840, .i32⟩
  | 38 => ⟨S_, .i32⟩
  | 39 => ⟨S12032x7840, .i32⟩
  | 40 => ⟨S12032x7840, .i1⟩
  | 41 => ⟨S_, .i32⟩
  | 42 => ⟨S12032x7840, .i32⟩
  | 43 => ⟨S12032x7840, .i1⟩
  | 44 => ⟨S_, .i32⟩
  | 45 => ⟨S12032x7840, .i32⟩
  | 46 => ⟨S12032x7840, .i1⟩
  | 47 => ⟨S_, .i32⟩
  | 48 => ⟨S_, .i32⟩
  | 49 => ⟨S12032x7840, .i32⟩
  | 50 => ⟨S12032x7840, .i32⟩
  | 51 => ⟨S12032x7840, .i32⟩
  | 52 => ⟨S_, .i32⟩
  | 53 => ⟨S12032x7840, .i32⟩
  | 54 => ⟨S12032x7840, .i32⟩
  | 55 => ⟨S_, .i32⟩
  | 56 => ⟨S12032x7840, .i32⟩
  | 57 => ⟨S12032x7840, .i32⟩
  | 58 => ⟨S_, .i32⟩
  | 59 => ⟨S12032x7840, .i32⟩
  | 60 => ⟨S12032x7840, .i1⟩
  | 61 => ⟨S12032x7840, .i32⟩
  | 62 => ⟨S12032x7840, .i32⟩
  | 63 => ⟨S12032x7840, .i16⟩
  | 64 => ⟨S12032x7840, .bf16⟩
  | 65 => ⟨S32x1x7840, .f32⟩
  | 66 => ⟨S_, .i32⟩
  | 67 => ⟨S12032x7840, .i32⟩
  | 68 => ⟨S12032x7840, .i32⟩
  | 69 => ⟨S_, .i32⟩
  | 70 => ⟨S12032x7840, .i32⟩
  | 71 => ⟨S12032x7840, .i32⟩
  | 72 => ⟨S_, .i32⟩
  | 73 => ⟨S12032x7840, .i32⟩
  | 74 => ⟨S12032x7840, .i32⟩
  | 75 => ⟨S_, .i32⟩
  | 76 => ⟨S12032x7840, .i32⟩
  | 77 => ⟨S12032x7840, .i32⟩
  | 78 => ⟨S_, .i32⟩
  | 79 => ⟨S12032x7840, .i32⟩
  | 80 => ⟨S12032x7840, .i32⟩
  | 81 => ⟨S_, .i32⟩
  | 82 => ⟨S12032x7840, .i32⟩
  | 83 => ⟨S12032x7840, .i32⟩
  | 84 => ⟨S_, .i32⟩
  | 85 => ⟨S12032x7840, .i32⟩
  | 86 => ⟨S12032x7840, .i32⟩
  | 87 => ⟨S_, .i32⟩
  | 88 => ⟨S12032x7840, .i32⟩
  | 89 => ⟨S12032x7840, .i32⟩
  | 90 => ⟨S_, .i32⟩
  | 91 => ⟨S12032x7840, .i32⟩
  | 92 => ⟨S12032x7840, .i1⟩
  | 93 => ⟨S_, .i32⟩
  | 94 => ⟨S12032x7840, .i32⟩
  | 95 => ⟨S12032x7840, .i1⟩
  | 96 => ⟨S_, .i32⟩
  | 97 => ⟨S12032x7840, .i32⟩
  | 98 => ⟨S12032x7840, .i1⟩
  | 99 => ⟨S_, .i32⟩
  | 100 => ⟨S_, .i32⟩
  | 101 => ⟨S12032x7840, .i32⟩
  | 102 => ⟨S12032x7840, .i32⟩
  | 103 => ⟨S12032x7840, .i32⟩
  | 104 => ⟨S_, .i32⟩
  | 105 => ⟨S12032x7840, .i32⟩
  | 106 => ⟨S12032x7840, .i32⟩
  | 107 => ⟨S_, .i32⟩
  | 108 => ⟨S12032x7840, .i32⟩
  | 109 => ⟨S12032x7840, .i32⟩
  | 110 => ⟨S_, .i32⟩
  | 111 => ⟨S12032x7840, .i32⟩
  | 112 => ⟨S12032x7840, .i1⟩
  | 113 => ⟨S12032x7840, .i32⟩
  | 114 => ⟨S12032x7840, .i32⟩
  | 115 => ⟨S12032x7840, .i16⟩
  | 116 => ⟨S12032x7840, .bf16⟩
  | 117 => ⟨S32x1x7840, .f32⟩
  | 118 => ⟨S32x1x7840x1, .f32⟩
  | 119 => ⟨S32x1x7840x1, .f32⟩
  | 120 => ⟨S32x1x7840x1, .f32⟩
  | 121 => ⟨S32x1x7840x1, .f32⟩
  | 122 => ⟨S32x1x7840x4, .f32⟩
  | 123 => ⟨S32x1x31360, .f32⟩
  | 124 => ⟨S1x1x31360, .f32⟩
  | 125 => ⟨S32x1x31360, .f32⟩
  | 126 => ⟨S32x1x31360, .f32⟩
  | 127 => ⟨S32x1x31360, .bf16⟩
  | _ => ⟨S32x1x12032, .bf16⟩

abbrev hbmTy (i : Nat) : BufTy := match i / 128 with
  | 0 => hbmTy0_0 i
  | 1 => hbmTy0_1 i
  | _ => ⟨S32x1x12032, .bf16⟩

abbrev bufTy : (tb : Table) → Fin (tcTables nBuf tb) → BufTy
  | .hbm, ⟨i, _⟩ => hbmTy i
  | _, _ => ⟨S32x1x12032, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_c_10 : Ref sig .tc := ⟨.hbm, 47, rfl⟩
abbrev main_v33 : Ref sig .tc := ⟨.hbm, 48, rfl⟩
abbrev main_v34 : Ref sig .tc := ⟨.hbm, 49, rfl⟩
abbrev main_c_11 : Ref sig .tc := ⟨.hbm, 50, rfl⟩
abbrev main_v35 : Ref sig .tc := ⟨.hbm, 51, rfl⟩
abbrev main_v36 : Ref sig .tc := ⟨.hbm, 52, rfl⟩
abbrev main_c_12 : Ref sig .tc := ⟨.hbm, 53, rfl⟩
abbrev main_v37 : Ref sig .tc := ⟨.hbm, 54, rfl⟩
abbrev main_v38 : Ref sig .tc := ⟨.hbm, 55, rfl⟩
abbrev main_c_13 : Ref sig .tc := ⟨.hbm, 56, rfl⟩
abbrev main_v39 : Ref sig .tc := ⟨.hbm, 57, rfl⟩
abbrev main_v40 : Ref sig .tc := ⟨.hbm, 58, rfl⟩
abbrev main_c_14 : Ref sig .tc := ⟨.hbm, 59, rfl⟩
abbrev main_v41 : Ref sig .tc := ⟨.hbm, 60, rfl⟩
abbrev main_v42 : Ref sig .tc := ⟨.hbm, 61, rfl⟩
abbrev main_c_15 : Ref sig .tc := ⟨.hbm, 62, rfl⟩
abbrev main_v43 : Ref sig .tc := ⟨.hbm, 63, rfl⟩
abbrev main_v44 : Ref sig .tc := ⟨.hbm, 64, rfl⟩
abbrev main_c_16 : Ref sig .tc := ⟨.hbm, 65, rfl⟩
abbrev main_v45 : Ref sig .tc := ⟨.hbm, 66, rfl⟩
abbrev main_v46 : Ref sig .tc := ⟨.hbm, 67, rfl⟩
abbrev main_c_17 : Ref sig .tc := ⟨.hbm, 68, rfl⟩
abbrev main_v47 : Ref sig .tc := ⟨.hbm, 69, rfl⟩
abbrev main_v48 : Ref sig .tc := ⟨.hbm, 70, rfl⟩
abbrev main_c_18 : Ref sig .tc := ⟨.hbm, 71, rfl⟩
abbrev main_c_19 : Ref sig .tc := ⟨.hbm, 72, rfl⟩
abbrev main_call0_v0 : Ref sig .tc := ⟨.hbm, 73, rfl⟩
abbrev main_call0_v1 : Ref sig .tc := ⟨.hbm, 74, rfl⟩
abbrev main_v49 : Ref sig .tc := ⟨.hbm, 75, rfl⟩
abbrev main_c_20 : Ref sig .tc := ⟨.hbm, 76, rfl⟩
abbrev main_call1_v0 : Ref sig .tc := ⟨.hbm, 77, rfl⟩
abbrev main_v50 : Ref sig .tc := ⟨.hbm, 78, rfl⟩
abbrev main_c_21 : Ref sig .tc := ⟨.hbm, 79, rfl⟩
abbrev main_call2_v0 : Ref sig .tc := ⟨.hbm, 80, rfl⟩
abbrev main_v51 : Ref sig .tc := ⟨.hbm, 81, rfl⟩
abbrev main_c_22 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_23 : Ref sig .tc := ⟨.hbm, 90, rfl⟩
abbrev main_v59 : Ref sig .tc := ⟨.hbm, 91, rfl⟩
abbrev main_v60 : Ref sig .tc := ⟨.hbm, 92, rfl⟩
abbrev main_c_24 : Ref sig .tc := ⟨.hbm, 93, rfl⟩
abbrev main_v61 : Ref sig .tc := ⟨.hbm, 94, rfl⟩
abbrev main_v62 : Ref sig .tc := ⟨.hbm, 95, rfl⟩
abbrev main_c_25 : Ref sig .tc := ⟨.hbm, 96, rfl⟩
abbrev main_v63 : Ref sig .tc := ⟨.hbm, 97, rfl⟩
abbrev main_v64 : Ref sig .tc := ⟨.hbm, 98, rfl⟩
abbrev main_c_26 : Ref sig .tc := ⟨.hbm, 99, rfl⟩
abbrev main_v65 : Ref sig .tc := ⟨.hbm, 100, rfl⟩
abbrev main_v66 : Ref sig .tc := ⟨.hbm, 101, rfl⟩
abbrev main_c_27 : Ref sig .tc := ⟨.hbm, 102, rfl⟩
abbrev main_v67 : Ref sig .tc := ⟨.hbm, 103, rfl⟩
abbrev main_v68 : Ref sig .tc := ⟨.hbm, 104, rfl⟩
abbrev main_c_28 : Ref sig .tc := ⟨.hbm, 105, rfl⟩
abbrev main_v69 : Ref sig .tc := ⟨.hbm, 106, rfl⟩
abbrev main_v70 : Ref sig .tc := ⟨.hbm, 107, rfl⟩
abbrev main_c_29 : Ref sig .tc := ⟨.hbm, 108, rfl⟩
abbrev main_v71 : Ref sig .tc := ⟨.hbm, 109, rfl⟩
abbrev main_v72 : Ref sig .tc := ⟨.hbm, 110, rfl⟩
abbrev main_c_30 : Ref sig .tc := ⟨.hbm, 111, rfl⟩
abbrev main_v73 : Ref sig .tc := ⟨.hbm, 112, rfl⟩
abbrev main_v74 : Ref sig .tc := ⟨.hbm, 113, rfl⟩
abbrev main_c_31 : Ref sig .tc := ⟨.hbm, 114, rfl⟩
abbrev main_v75 : Ref sig .tc := ⟨.hbm, 115, rfl⟩
abbrev main_v76 : Ref sig .tc := ⟨.hbm, 116, rfl⟩
abbrev main_c_32 : Ref sig .tc := ⟨.hbm, 117, rfl⟩
abbrev main_v77 : Ref sig .tc := ⟨.hbm, 118, rfl⟩
abbrev main_v78 : Ref sig .tc := ⟨.hbm, 119, rfl⟩
abbrev main_c_33 : Ref sig .tc := ⟨.hbm, 120, rfl⟩
abbrev main_v79 : Ref sig .tc := ⟨.hbm, 121, rfl⟩
abbrev main_v80 : Ref sig .tc := ⟨.hbm, 122, rfl⟩
abbrev main_c_34 : Ref sig .tc := ⟨.hbm, 123, rfl⟩
abbrev main_c_35 : Ref sig .tc := ⟨.hbm, 124, rfl⟩
abbrev main_call4_v0 : Ref sig .tc := ⟨.hbm, 125, rfl⟩
abbrev main_call4_v1 : Ref sig .tc := ⟨.hbm, 126, rfl⟩
abbrev main_v81 : Ref sig .tc := ⟨.hbm, 127, rfl⟩
abbrev main_c_36 : Ref sig .tc := ⟨.hbm, 128, rfl⟩
abbrev main_call5_v0 : Ref sig .tc := ⟨.hbm, 129, rfl⟩
abbrev main_v82 : Ref sig .tc := ⟨.hbm, 130, rfl⟩
abbrev main_c_37 : Ref sig .tc := ⟨.hbm, 131, rfl⟩
abbrev main_call6_v0 : Ref sig .tc := ⟨.hbm, 132, rfl⟩
abbrev main_v83 : Ref sig .tc := ⟨.hbm, 133, rfl⟩
abbrev main_c_38 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_39 : Ref sig .tc := ⟨.hbm, 142, rfl⟩
abbrev main_v91 : Ref sig .tc := ⟨.hbm, 143, rfl⟩
abbrev main_v92 : Ref sig .tc := ⟨.hbm, 144, rfl⟩
abbrev main_c_40 : Ref sig .tc := ⟨.hbm, 145, rfl⟩
abbrev main_v93 : Ref sig .tc := ⟨.hbm, 146, rfl⟩
abbrev main_v94 : Ref sig .tc := ⟨.hbm, 147, rfl⟩
abbrev main_c_41 : Ref sig .tc := ⟨.hbm, 148, rfl⟩
abbrev main_v95 : Ref sig .tc := ⟨.hbm, 149, rfl⟩
abbrev main_v96 : Ref sig .tc := ⟨.hbm, 150, rfl⟩
abbrev main_c_42 : Ref sig .tc := ⟨.hbm, 151, rfl⟩
abbrev main_v97 : Ref sig .tc := ⟨.hbm, 152, rfl⟩
abbrev main_v98 : Ref sig .tc := ⟨.hbm, 153, rfl⟩
abbrev main_c_43 : Ref sig .tc := ⟨.hbm, 154, rfl⟩
abbrev main_v99 : Ref sig .tc := ⟨.hbm, 155, rfl⟩
abbrev main_v100 : Ref sig .tc := ⟨.hbm, 156, rfl⟩
abbrev main_c_44 : Ref sig .tc := ⟨.hbm, 157, rfl⟩
abbrev main_v101 : Ref sig .tc := ⟨.hbm, 158, rfl⟩
abbrev main_v102 : Ref sig .tc := ⟨.hbm, 159, rfl⟩
abbrev main_c_45 : Ref sig .tc := ⟨.hbm, 160, rfl⟩
abbrev main_v103 : Ref sig .tc := ⟨.hbm, 161, rfl⟩
abbrev main_v104 : Ref sig .tc := ⟨.hbm, 162, rfl⟩
abbrev main_c_46 : Ref sig .tc := ⟨.hbm, 163, rfl⟩
abbrev main_v105 : Ref sig .tc := ⟨.hbm, 164, rfl⟩
abbrev main_v106 : Ref sig .tc := ⟨.hbm, 165, rfl⟩
abbrev main_c_47 : Ref sig .tc := ⟨.hbm, 166, rfl⟩
abbrev main_v107 : Ref sig .tc := ⟨.hbm, 167, rfl⟩
abbrev main_v108 : Ref sig .tc := ⟨.hbm, 168, rfl⟩
abbrev main_c_48 : Ref sig .tc := ⟨.hbm, 169, rfl⟩
abbrev main_v109 : Ref sig .tc := ⟨.hbm, 170, rfl⟩
abbrev main_v110 : Ref sig .tc := ⟨.hbm, 171, rfl⟩
abbrev main_c_49 : Ref sig .tc := ⟨.hbm, 172, rfl⟩
abbrev main_v111 : Ref sig .tc := ⟨.hbm, 173, rfl⟩
abbrev main_v112 : Ref sig .tc := ⟨.hbm, 174, rfl⟩
abbrev main_c_50 : Ref sig .tc := ⟨.hbm, 175, rfl⟩
abbrev main_c_51 : Ref sig .tc := ⟨.hbm, 176, rfl⟩
abbrev main_call8_v0 : Ref sig .tc := ⟨.hbm, 177, rfl⟩
abbrev main_call8_v1 : Ref sig .tc := ⟨.hbm, 178, rfl⟩
abbrev main_v113 : Ref sig .tc := ⟨.hbm, 179, rfl⟩
abbrev main_c_52 : Ref sig .tc := ⟨.hbm, 180, rfl⟩
abbrev main_call9_v0 : Ref sig .tc := ⟨.hbm, 181, rfl⟩
abbrev main_v114 : Ref sig .tc := ⟨.hbm, 182, rfl⟩
abbrev main_c_53 : Ref sig .tc := ⟨.hbm, 183, rfl⟩
abbrev main_call10_v0 : Ref sig .tc := ⟨.hbm, 184, rfl⟩
abbrev main_v115 : Ref sig .tc := ⟨.hbm, 185, rfl⟩
abbrev main_c_54 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_c_55 : Ref sig .tc := ⟨.hbm, 194, rfl⟩
abbrev main_v123 : Ref sig .tc := ⟨.hbm, 195, rfl⟩
abbrev main_v124 : Ref sig .tc := ⟨.hbm, 196, rfl⟩
abbrev main_c_56 : Ref sig .tc := ⟨.hbm, 197, rfl⟩
abbrev main_v125 : Ref sig .tc := ⟨.hbm, 198, rfl⟩
abbrev main_v126 : Ref sig .tc := ⟨.hbm, 199, rfl⟩
abbrev main_c_57 : Ref sig .tc := ⟨.hbm, 200, rfl⟩
abbrev main_v127 : Ref sig .tc := ⟨.hbm, 201, rfl⟩
abbrev main_v128 : Ref sig .tc := ⟨.hbm, 202, rfl⟩
abbrev main_c_58 : Ref sig .tc := ⟨.hbm, 203, rfl⟩
abbrev main_v129 : Ref sig .tc := ⟨.hbm, 204, rfl⟩
abbrev main_v130 : Ref sig .tc := ⟨.hbm, 205, rfl⟩
abbrev main_c_59 : Ref sig .tc := ⟨.hbm, 206, rfl⟩
abbrev main_v131 : Ref sig .tc := ⟨.hbm, 207, rfl⟩
abbrev main_v132 : Ref sig .tc := ⟨.hbm, 208, rfl⟩
abbrev main_c_60 : Ref sig .tc := ⟨.hbm, 209, rfl⟩
abbrev main_v133 : Ref sig .tc := ⟨.hbm, 210, rfl⟩
abbrev main_v134 : Ref sig .tc := ⟨.hbm, 211, rfl⟩
abbrev main_c_61 : Ref sig .tc := ⟨.hbm, 212, rfl⟩
abbrev main_v135 : Ref sig .tc := ⟨.hbm, 213, rfl⟩
abbrev main_v136 : Ref sig .tc := ⟨.hbm, 214, rfl⟩
abbrev main_c_62 : Ref sig .tc := ⟨.hbm, 215, rfl⟩
abbrev main_v137 : Ref sig .tc := ⟨.hbm, 216, rfl⟩
abbrev main_v138 : Ref sig .tc := ⟨.hbm, 217, rfl⟩
abbrev main_c_63 : Ref sig .tc := ⟨.hbm, 218, rfl⟩
abbrev main_v139 : Ref sig .tc := ⟨.hbm, 219, rfl⟩
abbrev main_v140 : Ref sig .tc := ⟨.hbm, 220, rfl⟩
abbrev main_c_64 : Ref sig .tc := ⟨.hbm, 221, rfl⟩
abbrev main_v141 : Ref sig .tc := ⟨.hbm, 222, rfl⟩
abbrev main_v142 : Ref sig .tc := ⟨.hbm, 223, rfl⟩
abbrev main_c_65 : Ref sig .tc := ⟨.hbm, 224, rfl⟩
abbrev main_v143 : Ref sig .tc := ⟨.hbm, 225, rfl⟩
abbrev main_v144 : Ref sig .tc := ⟨.hbm, 226, rfl⟩
abbrev main_c_66 : Ref sig .tc := ⟨.hbm, 227, rfl⟩
abbrev main_c_67 : Ref sig .tc := ⟨.hbm, 228, rfl⟩
abbrev main_call12_v0 : Ref sig .tc := ⟨.hbm, 229, rfl⟩
abbrev main_call12_v1 : Ref sig .tc := ⟨.hbm, 230, rfl⟩
abbrev main_v145 : Ref sig .tc := ⟨.hbm, 231, rfl⟩
abbrev main_c_68 : Ref sig .tc := ⟨.hbm, 232, rfl⟩
abbrev main_call13_v0 : Ref sig .tc := ⟨.hbm, 233, rfl⟩
abbrev main_v146 : Ref sig .tc := ⟨.hbm, 234, rfl⟩
abbrev main_c_69 : Ref sig .tc := ⟨.hbm, 235, rfl⟩
abbrev main_call14_v0 : Ref sig .tc := ⟨.hbm, 236, rfl⟩
abbrev main_v147 : Ref sig .tc := ⟨.hbm, 237, rfl⟩
abbrev main_c_70 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩

abbrev nD : Nat := 1
abbrev τ : Topo := Topo.v7x

variable {F : FTy → Type} [FloatOps F]
-- ==== Proof.Body.lean ====
/-
The kernel body as a loop. The printed body is 47 copies of one step, one per block of 256 contraction positions:
three planes of the packed weights are loaded, the four 6-bit fields of every group of three bytes are cut out and
decoded, and two accumulators (fields 0 and 1, fields 2 and 3) take a product with the loaded slice of the input.
Here the step is written once (`step`), the loop over it (`run`), and the four stores at the end (`fin`);
`body_eq` says the printed body is exactly that.
-/
module

public import proofs.«01_k».proof.Proof.Gen.KernelIdeal.Frame

@[expose] public section

noncomputable section

namespace Cert.KernelIdeal.Body

open Cert.KernelIdeal Cert.KernelIdeal.Gen
open Idealize.ShloMosaic Idealize.SL.Sem

variable {F : FTy → Type} [FloatOps F]

/-! ## The pure part of one step -/

/-- A plane of packed bytes as words: transposed so that the contraction axis comes first, four bytes to a word. -/
def word (v : Vec F S1x128x256 .i8) : IVec S64x128 32 :=
  bitcast S64x128 32 (transpose S256x128 [1, 0] (shapeCast S128x256 v shapeCasts_S1x128x256_S128x256 : IVec S128x256 8)
    transposes_S128x256_p1_0_S256x128) bitcasts_S256x128_w8_S64x128_w32

/-- The four fields of three bytes, in every byte lane of a word. -/
def fld0 (a : IVec S64x128 32) : IVec S64x128 32 := andi a (broadcast S64x128 1061109567#32)
def fld1 (a b : IVec S64x128 32) : IVec S64x128 32 :=
  ori (andi (shrui a (broadcast S64x128 6#32)) (broadcast S64x128 50529027#32))
    (shli (andi b (broadcast S64x128 252645135#32)) (broadcast S64x128 2#32))
def fld2 (b c : IVec S64x128 32) : IVec S64x128 32 :=
  ori (andi (shrui b (broadcast S64x128 4#32)) (broadcast S64x128 252645135#32))
    (shli (andi c (broadcast S64x128 50529027#32)) (broadcast S64x128 4#32))
def fld3 (c : IVec S64x128 32) : IVec S64x128 32 := andi (shrui c (broadcast S64x128 2#32)) (broadcast S64x128 1061109567#32)

/-- Field codes to numbers: spread to the layout of an 8-bit float, reinterpreted, widened. -/
def dec (w : IVec S64x128 32) : FVec F S256x128 .bf16 :=
  extf .bf16 (bitcastToFloat .fp8e5m2 (bitcast S256x128 8
    (andi (addi w (broadcast S64x128 1616928864#32)) (broadcast S64x128 2678038431#32)) bitcasts_S64x128_w32_S256x128_w8)) bitsLt_fp8e5m2_bf16

/-- One product added to an accumulator: the input slice with two decoded fields side by side. -/
def addProd (acc : FVec F S32x256 .f32) (x : Vec F S32x256 .bf16) (f g : IVec S64x128 32) : FVec F S32x256 .f32 :=
  addf acc (matmul dot_S32x256_S256x256_S32x256_1_0_0_1_n_n none (shapeCast S32x256 x shapeCasts_S32x256_S32x256)
    (concatenate S256x256 1 [⟨S256x128, dec f⟩, ⟨S256x128, dec g⟩] concatenates_S256x128_S256x128_S256x256_d1)
    (constant S32x256 .f32 0x00000000#32))

/-- The two accumulators. -/
structure Acc (F : FTy → Type) where
  p : FVec F S32x256 .f32
  q : FVec F S32x256 .f32

/-- One step's update of the accumulators from the loaded planes and input slice. -/
def upd (a : Acc F) (u v w : Vec F S1x128x256 .i8) (x : Vec F S32x256 .bf16) : Acc F :=
  ⟨addProd a.p x (fld0 (word u)) (fld1 (word u) (word v)), addProd a.q x (fld2 (word v) (word w)) (fld3 (word w))⟩

def acc0 : Acc F := ⟨broadcast S32x256 (Scalar.ofBits .f32 0x00000000#32), broadcast S32x256 (Scalar.ofBits .f32 0x00000000#32)⟩

/-! ## The memory operations -/

theorem inbW (h k : Nat) (hh : h < 3) (hk : k < 47) : ∀ a, (![h, 0, k * 256] : Fin 3 → Nat) a + S1x128x256.size a ≤ S3x128x12032.size a := by
  intro a; fin_cases a
  · change h + 1 ≤ 3; omega
  · change 0 + 128 ≤ 128; omega
  · change k * 256 + 256 ≤ 12032; omega

theorem inbX (k : Nat) (hk : k < 47) : ∀ a, (![0, k * 256] : Fin 2 → Nat) a + S32x256.size a ≤ S32x12032.size a := by
  intro a; fin_cases a
  · change 0 + 32 ≤ 32; omega
  · change k * 256 + 256 ≤ 12032; omega

theorem inbO (h : Nat) (hh : h < 4) : ∀ a, (![h, 0, 0] : Fin 3 → Nat) a + S1x32x128.size a ≤ S4x32x128.size a := by
  intro a; fin_cases a
  · change h + 1 ≤ 4; omega
  · change 0 + 32 ≤ 32; omega
  · change 0 + 128 ≤ 128; omega

/-- Plane `h` of the packed block at contraction block `k`. -/
abbrev rW (h k : Nat) (hh : h < 3) (hk : k < 47) : Rect S3x128x12032 := Rect.unit ![h, 0, k * 256] S1x128x256.size (inbW h k hh hk)
/-- The input at contraction block `k`. -/
abbrev rX (k : Nat) (hk : k < 47) : Rect S32x12032 := Rect.unit ![0, k * 256] S32x256.size (inbX k hk)
/-- Plane `h` of the output block. -/
abbrev rO (h : Nat) (hh : h < 4) : Rect S4x32x128 := Rect.unit ![h, 0, 0] S1x32x128.size (inbO h hh)

variable (arg1 : Memref sig .tc .vmem S32x12032 .bf16) (arg2 : Memref sig .tc .vmem S3x128x12032 .i8)
  (arg3 : Memref sig .tc .vmem S4x32x128 .f32)

/-- One step: the three planes and the input slice loaded, the accumulators updated. -/
def step (k : Nat) (hk : k < 47) (a : Acc F) : Prog (TpuEff nD τ sig (Elt F) Λ₀ .tc) (Acc F) := do
  let u : Vec F S1x128x256 .i8 ← Prog.lift (.load arg2 (rW 0 k (by decide) hk).toLoadRect (View.loadsAt_vmem h_S1x128x256))
  let v : Vec F S1x128x256 .i8 ← Prog.lift (.load arg2 (rW 1 k (by decide) hk).toLoadRect (View.loadsAt_vmem h_S1x128x256))
  let w : Vec F S1x128x256 .i8 ← Prog.lift (.load arg2 (rW 2 k (by decide) hk).toLoadRect (View.loadsAt_vmem h_S1x128x256))
  let x : Vec F S32x256 .bf16 ← Prog.lift (.load arg1 (rX k hk).toLoadRect (View.loadsAt_vmem h_S32x256))
  pure (upd a u v w x)

/-- `n` steps from contraction block `k`. -/
def run : (n k : Nat) → k + n ≤ 47 → Acc F → Prog (TpuEff nD τ sig (Elt F) Λ₀ .tc) (Acc F)
  | 0, _, _, a => pure a
  | n + 1, k, h, a => do
    let b ← step arg1 arg2 k (by omega) a
    run n (k + 1) (by omega) b

/-- What is stored: a half of an accumulator, scaled by 4096. -/
def lo (v : FVec F S32x256 .f32) : FVec F S1x32x128 .f32 :=
  shapeCast S1x32x128 (mulf (extractStridedSlice S32x128 ![0, 0] v slices_S32x256_o0_0_S32x128 : FVec F S32x128 .f32)
    (broadcast S32x128 (Scalar.ofBits .f32 0x45800000#32))) shapeCasts_S32x128_S1x32x128
def hi (v : FVec F S32x256 .f32) : FVec F S1x32x128 .f32 :=
  shapeCast S1x32x128 (mulf (extractStridedSlice S32x128 ![0, 128] v slices_S32x256_o0_128_S32x128 : FVec F S32x128 .f32)
    (broadcast S32x128 (Scalar.ofBits .f32 0x45800000#32))) shapeCasts_S32x128_S1x32x128

/-- One output plane written (the load before it reads what is overwritten). -/
def put (h : Nat) (hh : h < 4) (v : FVec F S1x32x128 .f32) : Prog (TpuEff nD τ sig (Elt F) Λ₀ .tc) PUnit := do
  let _z : Vec F S1x32x128 .f32 ← Prog.lift (.load arg3 (rO h hh).toLoadRect (View.loadsAt_vmem h_S1x32x128))
  Prog.lift (.store arg3 (rO h hh) v Finset.univ (View.stores_vmem_bits_univ h_S1x32x128 rfl) (.inl rfl))

/-- The four output planes from the accumulators. -/
def fin (a : Acc F) : Prog (TpuEff nD τ sig (Elt F) Λ₀ .tc) PUnit := do
  put arg3 0 (by decide) (lo a.p)
  put arg3 1 (by decide) (hi a.p)
  put arg3 2 (by decide) (lo a.q)
  put arg3 3 (by decide) (hi a.q)

/-- The whole body: 47 steps from zero accumulators, then the stores. -/
def body : Prog (TpuEff nD τ sig (Elt F) Λ₀ .tc) PUnit := do
  let a ← run arg1 arg2 47 0 (by decide) acc0
  fin arg3 a

set_option maxRecDepth 65536 in
/-- The printed body is that loop. -/
theorem body_eq (i : grid0.Coords) (harg1 : arg1.IsWhole) (harg2 : arg2.IsWhole) (harg3 : arg3.IsWhole) :
    cc0__body (F := F) i arg1 harg1 arg2 harg2 arg3 harg3 = body arg1 arg2 arg3 := by
  chain_rfl

end Cert.KernelIdeal.Body

end
-- ==== Proof.Sound.lean ====
/-
What the kernel body does to the three buffers it is given: the input block and the packed block are left as they
are, and the output block ends holding `out` of the two, whatever it held before.
-/
module

public import proofs.«01_k».proof.Proof.Body
public import Idealize.ShloMosaic.Lib.Pipeline.KitQuiescent

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F]

local notation "𝕄" => MT nD τ sig Unit (Elt F) ℕ (UR sig nD τ) ℕ

/-! ## The contents -/

/-- The accumulators after `n` steps from block `k`, over the two blocks. -/
def accs (X0 : S32x12032.Idx → Elt F .bf16) (X1 : S3x128x12032.Idx → Elt F .i8) : (n k : Nat) → k + n ≤ 47 → Acc F → Acc F
  | 0, _, _, a => a
  | n + 1, k, h, a => accs X0 X1 n (k + 1) (by omega)
      (upd a (ld X1 (rW 0 k (by decide) (by omega))) (ld X1 (rW 1 k (by decide) (by omega))) (ld X1 (rW 2 k (by decide) (by omega)))
        (ld X0 (rX k (by omega))))

/-- The accumulators after the whole loop. -/
def accAll (X0 : S32x12032.Idx → Elt F .bf16) (X1 : S3x128x12032.Idx → Elt F .i8) : Acc F := accs X0 X1 47 0 (by decide) acc0

/-- The output block of given accumulators, written over `Y` plane by plane. -/
def outOver (a : Acc F) (Y : S4x32x128.Idx → Elt F .f32) : S4x32x128.Idx → Elt F .f32 :=
  (rO 3 (by decide)).overlay ((rO 2 (by decide)).overlay ((rO 1 (by decide)).overlay ((rO 0 (by decide)).overlay Y (lo a.p)) (hi a.p)) (lo a.q)) (hi a.q)

/-! ## The memory operations, over owned memrefs -/

section Ops
variable {s : Shape} {e : EltTy} (c : Dev nD) (E : Set ℕ) (M : Memref sig .tc .vmem s e)
  (Q : PUnit → sProp (MT nD τ sig Unit (Elt F) ℕ (UR sig nD τ) ℕ))

/-- What a memref reads once a rectangle of it is written: the old contents overlaid. -/
theorem read_store (X : s.Idx → Elt F e) (r : Rect s) (w : r.shape.Idx → Elt F e) (f : M.view.ty.Contents (Elt F))
    (hf : M.view.read (Elt F) f = X) :
    M.view.read (Elt F) ((M.access r).write (Elt F) f w Finset.univ) = r.overlay X w := by
  funext y
  by_cases h : y ∈ r.set
  · rw [← Rect.map_emb_univ] at h
    obtain ⟨i, -, rfl⟩ := Finset.mem_map.mp h
    exact (View.read_slice_write_emb r f w (Finset.mem_univ i)).trans (Rect.overlay_emb r X w i).symm
  · rw [Rect.overlay_of_not_mem r X w h, ← hf]
    exact View.read_slice_write_of_not_mem r f w _ (by rwa [Rect.map_emb_univ])

/-- A load reads what the rectangle holds. -/
theorem load_wp (q : PosShare TreeShare) (X : s.Idx → Elt F e) (r : Rect s) (hl : M.view.LoadsAt r.toLoadRect)
    (k : (r.shape.Idx → Elt F e) → Prog (TpuEff nD τ sig (Elt F) Λ₀ .tc) PUnit) :
    owns (c : Thread nD τ) M q X
      ⊢ iprop((owns (c : Thread nD τ) M q X -∗ wp frame (wpE (defs₀ (F := F)) Variants.none (c : Thread nD τ) none) E (k (ld X r)) Q)
        -∗ wp frame (wpE (defs₀ (F := F)) Variants.none (c : Thread nD τ) none) E (.op (.load M r.toLoadRect hl) k) Q) := by
  unfold owns
  iintro ⟨%f, %hf, H⟩ Hk
  iapply (wp_load Variants.none (c : Thread nD τ) none E (m := M) (r := r.toLoadRect) (hl := hl) (View.setOn_subset_set _ _)) $$ H
  iintro H
  rw [View.readAt_eq_ld, hf]
  iapply Hk
  iexists f
  isplitr
  · ipureintro; exact hf
  · iexact H

/-- A store overwrites the rectangle. -/
theorem store_wp (X : s.Idx → Elt F e) (r : Rect s) (w : r.shape.Idx → Elt F e)
    (hx : (M.access r).Stores Finset.univ) (hm : (Finset.univ : Finset r.shape.Idx) = Finset.univ ∨ ∀ a, r.stride a = 1)
    (k : PUnit → Prog (TpuEff nD τ sig (Elt F) Λ₀ .tc) PUnit) :
    owns (c : Thread nD τ) M fullShare X
      ⊢ iprop((owns (c : Thread nD τ) M fullShare (r.overlay X w) -∗ wp frame (wpE (defs₀ (F := F)) Variants.none (c : Thread nD τ) none) E (k ⟨⟩) Q)
        -∗ wp frame (wpE (defs₀ (F := F)) Variants.none (c : Thread nD τ) none) E (.op (.store M r w Finset.univ hx hm) k) Q) := by
  unfold owns
  iintro ⟨%f, %hf, H⟩ Hk
  iapply (wp_store Variants.none (c : Thread nD τ) none E (m := M) (r := r) (hx := hx) (hm := hm) (S := M.view.set)
    ((View.setOn_subset_set _ _).trans (View.set_slice_subset _ _))) $$ H
  iintro H
  iapply Hk
  iexists _
  isplitr [H]
  · ipureintro; exact read_store M X r w f hf
  · iexact H

end Ops

/-! ## The loop -/

section Loop
variable (c : Dev nD) (E : Set ℕ) (arg1 : Memref sig .tc .vmem S32x12032 .bf16) (arg2 : Memref sig .tc .vmem S3x128x12032 .i8)
  (arg3 : Memref sig .tc .vmem S4x32x128 .f32) (X0 : S32x12032.Idx → Elt F .bf16) (X1 : S3x128x12032.Idx → Elt F .i8)
  (Q : PUnit → sProp (MT nD τ sig Unit (Elt F) ℕ (UR sig nD τ) ℕ))

/-- One step of the loop. -/
theorem step_wp (k : Nat) (hk : k < 47) (a : Acc F) (kk : Acc F → Prog (TpuEff nD τ sig (Elt F) Λ₀ .tc) PUnit) :
    iprop(owns (c : Thread nD τ) arg1 fullShare X0 ∗ owns (c : Thread nD τ) arg2 fullShare X1)
      ⊢ iprop((owns (c : Thread nD τ) arg1 fullShare X0 ∗ owns (c : Thread nD τ) arg2 fullShare X1 -∗
          wp frame (wpE (defs₀ (F := F)) Variants.none (c : Thread nD τ) none) E (kk (accs X0 X1 1 k (by omega) a)) Q)
        -∗ wp frame (wpE (defs₀ (F := F)) Variants.none (c : Thread nD τ) none) E ((step arg1 arg2 k hk a).bind kk) Q) := by
  iintro ⟨H0, H1⟩ Hk
  unfold step
  simp only [Prog.lift, Prog.bind_op, Prog.bind_ret]
  iapply (load_wp c E arg2 Q fullShare X1 (rW 0 k (by decide) hk)) $$ H1
  iintro H1
  iapply (load_wp c E arg2 Q fullShare X1 (rW 1 k (by decide) hk)) $$ H1
  iintro H1
  iapply (load_wp c E arg2 Q fullShare X1 (rW 2 k (by decide) hk)) $$ H1
  iintro H1
  iapply (load_wp c E arg1 Q fullShare X0 (rX k hk)) $$ H0
  iintro H0
  iapply Hk
  isplitl [H0]
  · iexact H0
  · iexact H1

/-- The loop. -/
theorem run_wp (n : Nat) : ∀ (k : Nat) (h : k + n ≤ 47) (a : Acc F) (kk : Acc F → Prog (TpuEff nD τ sig (Elt F) Λ₀ .tc) PUnit),
    iprop(owns (c : Thread nD τ) arg1 fullShare X0 ∗ owns (c : Thread nD τ) arg2 fullShare X1)
      ⊢ iprop((owns (c : Thread nD τ) arg1 fullShare X0 ∗ owns (c : Thread nD τ) arg2 fullShare X1 -∗
          wp frame (wpE (defs₀ (F := F)) Variants.none (c : Thread nD τ) none) E (kk (accs X0 X1 n k h a)) Q)
        -∗ wp frame (wpE (defs₀ (F := F)) Variants.none (c : Thread nD τ) none) E ((run arg1 arg2 n k h a).bind kk) Q) := by
  induction n with
  | zero =>
    intro k h a kk
    iintro H Hk
    iapply Hk
    iexact H
  | succ n ih =>
    intro k h a kk
    have e : (run arg1 arg2 (n + 1) k h a).bind kk
        = (step arg1 arg2 k (by omega) a).bind fun b => (run arg1 arg2 n (k + 1) (by omega) b).bind kk := Prog.bind_assoc _ _ _
    rw [e]
    iintro H Hk
    iapply (step_wp c E arg1 arg2 X0 X1 Q k _ a _) $$ H
    iintro H
    iapply (ih (k + 1) _ _ kk) $$ H
    iexact Hk

/-- One plane of the output block. -/
theorem put_wp (h : Nat) (hh : h < 4) (v : FVec F S1x32x128 .f32) (X : S4x32x128.Idx → Elt F .f32)
    (kk : PUnit → Prog (TpuEff nD τ sig (Elt F) Λ₀ .tc) PUnit) :
    owns (c : Thread nD τ) arg3 fullShare X
      ⊢ iprop((owns (c : Thread nD τ) arg3 fullShare ((rO h hh).overlay X v) -∗
          wp frame (wpE (defs₀ (F := F)) Variants.none (c : Thread nD τ) none) E (kk ⟨⟩) Q)
        -∗ wp frame (wpE (defs₀ (F := F)) Variants.none (c : Thread nD τ) none) E ((put arg3 h hh v).bind kk) Q) := by
  iintro H Hk
  unfold put
  simp only [Prog.lift, Prog.bind_op, Prog.bind_ret]
  iapply (load_wp c E arg3 Q fullShare X (rO h hh)) $$ H
  iintro H
  iapply (store_wp c E arg3 Q X (rO h hh) v) $$ H
  iintro H
  iapply Hk
  iexact H

end Loop

/-- The body as nested continuations. -/
theorem body_split (arg1 : Memref sig .tc .vmem S32x12032 .bf16) (arg2 : Memref sig .tc .vmem S3x128x12032 .i8)
    (arg3 : Memref sig .tc .vmem S4x32x128 .f32) :
    body (F := F) arg1 arg2 arg3 = (run arg1 arg2 47 0 (by decide) acc0).bind fun a =>
      (put arg3 0 (by decide) (lo a.p)).bind fun _ => (put arg3 1 (by decide) (hi a.p)).bind fun _ =>
      (put arg3 2 (by decide) (lo a.q)).bind fun _ => (put arg3 3 (by decide) (hi a.q)).bind fun _ => .ret ⟨⟩ := by
  rfl

/-- **The body's triple.** -/
theorem body_wp (c : Dev nD) (E : Set ℕ) (arg1 : Memref sig .tc .vmem S32x12032 .bf16) (arg2 : Memref sig .tc .vmem S3x128x12032 .i8)
    (arg3 : Memref sig .tc .vmem S4x32x128 .f32) (X0 : S32x12032.Idx → Elt F .bf16) (X1 : S3x128x12032.Idx → Elt F .i8)
    (X2 : S4x32x128.Idx → Elt F .f32) (Q : PUnit → sProp 𝕄) :
    iprop(owns (c : Thread nD τ) arg1 fullShare X0 ∗ owns (c : Thread nD τ) arg2 fullShare X1 ∗ owns (c : Thread nD τ) arg3 fullShare X2)
      ⊢ iprop((owns (c : Thread nD τ) arg1 fullShare X0 ∗ owns (c : Thread nD τ) arg2 fullShare X1
          ∗ owns (c : Thread nD τ) arg3 fullShare (outOver (accAll X0 X1) X2) -∗ Q ⟨⟩)
        -∗ wp frame (wpE (defs₀ (F := F)) Variants.none (c : Thread nD τ) none) E (body arg1 arg2 arg3) Q) := by
  iintro ⟨H0, H1, H2⟩ Hk
  rw [body_split]
  iapply (run_wp c E arg1 arg2 X0 X1 Q 47 0 _ acc0 _) $$ [H0 H1]
  · isplitl [H0]
    · iexact H0
    · iexact H1
  iintro ⟨H0, H1⟩
  iapply (put_wp c E arg3 Q 0 _ _ X2 _) $$ H2
  iintro H2
  iapply (put_wp c E arg3 Q 1 _ _ _ _) $$ H2
  iintro H2
  iapply (put_wp c E arg3 Q 2 _ _ _ _) $$ H2
  iintro H2
  iapply (put_wp c E arg3 Q 3 _ _ _ _) $$ H2
  iintro H2
  rw [wp_ret]
  imodintro
  iapply Hk
  isplitl [H0]
  · iexact H0
  isplitl [H1]
  · iexact H1
  · iexact H2

end Cert.KernelIdeal.Body

end
-- ==== Proof.Frame.lean ====
/-
The frame: for any float values, from any memory whose semaphore counters are zero, every run ends, the three
arguments end as they were and every counter ends at zero. What the kernel leaves in its result is not named here.
-/
module

public import proofs.«01_k».proof.Proof.Sound

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable (m : (ℓ : Loc nD τ sig) → Buf (Elt F) ℓ) (ρ : Dev nD → PrngReg)

/-- The packed window's buffer: the block inside the array, zeros past the array's end. -/
def wfill (c : Dev nD) (t : Fin cfg0.N) : S3x128x12032.Idx → Elt F .i8 :=
  win0_1.fill (grid0.coords t) (fun _ => (0#8 : BitVec 8)) (iblk m c 1 t)

/-- The proof data: the input windows keep their blocks, the output window holds `o`. -/
def dats (o : (c : Dev nD) → Fin cfg0.N → S4x32x128.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => wfill m c t
    | ⟨2, _⟩ => o c t
  Φ _ := Pipeline.ΦA spec0 c
  q _ := fullShare
  owed _ := 0

variable (o : (c : Dev nD) → Fin cfg0.N → S4x32x128.Idx → Elt F .f32)

theorem A_eq (c : Dev nD) (w : Fin cfg0.W) : (dats m o 0 c).A w = V m c (Pipeline.arrRef spec0 w) := by dsimp only [dats]

theorem before_0 (c : Dev nD) (t : Fin cfg0.N) (d) : (dats m o 0 c).before (0 : Fin 3) t d = iblk m c 0 t :=
  before0_0_of m (dats m o 0 c) (A_eq m o c 0) (fun _ => rfl) t d

theorem before_1 (c : Dev nD) (t : Fin cfg0.N) (d) :
    (dats m o 0 c).before (1 : Fin 3) t d = win0_1.fill (grid0.coords t) d (iblk m c 1 t) := by
  unfold Dat.before; rw [if_pos (fetch0_1 t)]; rfl

/-- The output window, forgotten. -/
def fgt : Fin 3 → Bool
  | 0 => false
  | 1 => false
  | 2 => true

theorem body_forget (c : Dev nD) :
    BodyObligationLoose (dats m o 0 c) (defs₀ (F := F)) Variants.none () Set.univ fgt := fun t => by
  rw [bigSep_W0, bigSep_W0]
  simp only [fgt]
  rw [show (dats m o 0 c).Φ t.succ = (dats m o 0 c).Φ t.castSucc from rfl,
    show (dats m o 0 c).owesAt () t.succ = (dats m o 0 c).owesAt () t.castSucc from rfl]
  change _ ⊢ wp frame (wpE (defs₀ (F := F)) Variants.none (c : Thread nD τ) none) Set.univ (bodyAt0 t) _
  unfold bodyAt0
  rw [body_eq]
  iintro ⟨HΦ, Ho, ⟨%d0, H0⟩, ⟨%d1, H1⟩, ⟨%d2, H2⟩⟩
  rw [before_0 m o c t d0, before_1 m o c t d1]
  iapply (body_wp c Set.univ (stage0_0 (cfg0.slots t 0)) (stage0_1 (cfg0.slots t 1)) (stage0_2 (cfg0.slots t 2)) (iblk m c 0 t)
    (win0_1.fill (grid0.coords t) d1 (iblk m c 1 t)) d2 _) $$ [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexact H0
  isplitl [H1]
  · iexists d1
    change _ ⊢ owns (c : Thread nD τ) (stage0_1 (cfg0.slots t 1)) fullShare
      (win0_1.fill (grid0.coords t) d1 (win0_1.cut (grid0.coords t) (wfill m c t)))
    rw [show win0_1.cut (grid0.coords t) (wfill m c t) = iblk m c 1 t from win0_1.cut_fill _ _ _]
    try iexact H1
  · iexists _
    iexact H2

/-- What the host operations after the launch write. -/
def tailWrites : Finset (Ref sig .tc) := {main_v3, main_v4, main_v5, main_v6, main_v7, main_v8}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
  · have := Proc.devRef_injective _ (Finset.mem_singleton.mp hb)
    subst this
    decide

/-- The frame's statement at any float values. -/
def FrameAt (F : FTy → Type) [FloatOps F] : Prop :=
  ∀ (m : (ℓ : Loc nD τ sig) → Buf (Elt F) ℓ) (ρ : Dev nD → PrngReg),
    θ_run defs (onTc (τ := τ) (main (F := F))) (s₀ m ρ) fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0

set_option backward.isDefEq.respectTransparency.types false in
/-- **The frame.** -/
theorem frame_at : FrameAt F := by
  intro m ρ
  refine Pipeline.θ_run_frame_around_T_forget (Q' := _) cfgs (dats m fun _ t => Dat.unnamed (cfg := cfg0) 2 t) (0 : Fin 1) launch0 defs₀ Variants.none
    fgt tailWrites m ρ main (hbody := body_forget m _) (hshare := fun c => (dats m _ 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m _) (hΦ := fun _ _ => rfl) (hQ' := ?_)
  intro r h
  refine ⟨fun c => ⟨?_, ?_, ?_⟩, h.2⟩
  · exact ((h.1 c).2 main_arg0 (Finset.mem_sdiff.mpr ⟨Pipeline.mem_restRefs_of main_arg0 (by decide) (by decide), by decide⟩)).trans (V_main_arg0 m c)
  · exact ((h.1 c).2 main_arg1 (Finset.mem_sdiff.mpr ⟨Pipeline.mem_restRefs_of main_arg1 (by decide) (by decide), by decide⟩)).trans (V_main_arg1 m c)
  · exact ((h.1 c).2 main_arg2 (Finset.mem_sdiff.mpr ⟨Pipeline.mem_restRefs_of main_arg2 (by decide) (by decide), by decide⟩)).trans (V_main_arg2 m c)

end Cert.KernelIdeal.Body

end
-- ==== Proof.KernelFrame.lean ====
/-
The bit-exact program's frame. The two printed programs are one text, so the statement about the bit-exact one is,
by unfolding, the statement `FrameAt Bits` proved over the other's names.
-/
module

public import proofs.«01_k».proof.Defs
public import proofs.«01_k».proof.Proof.Frame
public import proofs.«01_k».proof.Proof.Gen.Kernel

@[expose] public section

noncomputable section

namespace Cert.KernelIdeal.Body

open Idealize.ShloMosaic Idealize.SL.Sem

/-- The bit-exact frame without its precondition. -/
def KernelFrame : Prop :=
  letI := Cert.Kernel.Gen.facts
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

set_option maxRecDepth 65536 in
theorem kernelFrame_eq : KernelFrame = FrameAt Bits := by
  chain_rfl

end Cert.KernelIdeal.Body

end
-- ==== Proof.Decode.lean ====
/-
The 6-bit codes and what they decode to. A code is cut out of three packed bytes (`code`). The kernel spreads it to
the layout of an 8-bit float (`kbits`), the reference builds a bf16 pattern (`rbits`); over the extended reals the
second is the first times 4096 (`rval_eq`).
-/
module

public import Idealize.ShloMosaic.Lib.IdealHost
public import Idealize.ShloMosaic.PureOps.Vector
public import Mathlib.Tactic.IntervalCases
public import Mathlib.Tactic.FinCases

@[expose] public section

noncomputable section

namespace Cert.Decode

open Idealize.ShloMosaic

/-- Field `h` of three packed bytes, as a byte. -/
def code : Fin 4 → BitVec 8 → BitVec 8 → BitVec 8 → BitVec 8
  | 0, a, _, _ => a &&& 63#8
  | 1, a, b, _ => (a >>> 6) ||| ((b &&& 15#8) <<< 2)
  | 2, _, b, c => (b >>> 4) ||| ((c &&& 3#8) <<< 4)
  | 3, _, _, c => c >>> 2

/-- Field `h` of three packed bytes widened to words, as the reference cuts it. -/
def code32 : Fin 4 → BitVec 32 → BitVec 32 → BitVec 32 → BitVec 32
  | 0, a, _, _ => IntOp.andi a 63#32
  | 1, a, b, _ => IntOp.ori (IntOp.shrui .host a 6#32) (IntOp.shli .host (IntOp.andi b 15#32) 2#32)
  | 2, _, b, c => IntOp.ori (IntOp.shrui .host b 4#32) (IntOp.shli .host (IntOp.andi c 3#32) 4#32)
  | 3, _, _, c => IntOp.shrui .host c 2#32

/-- The kernel's pattern of a code: `s eee mm` spread to `s 00eee mm`. -/
def kbits (c : BitVec 8) : BitVec 8 := (c + 0x60#8) &&& 0x9F#8

/-- The reference's bf16 pattern of a code. -/
def rbits (c : BitVec 32) : BitVec 16 :=
  let e := IntOp.andi (IntOp.shrui .host c 2#32) 7#32
  let m := IntOp.andi c 3#32
  let sign := IntOp.shli .host (IntOp.shrui .host c 5#32) 15#32
  let normal := IntOp.shli .host (IntOp.addi (IntOp.andi c 31#32) 496#32) 5#32
  let sub := Scalar.select (IntOp.cmpi .eq m 0#32) 0#32
    (Scalar.select (IntOp.cmpi .eq m 1#32) 15744#32 (Scalar.select (IntOp.cmpi .eq m 2#32) 15872#32 15936#32))
  (IntOp.ori (Scalar.select (IntOp.cmpi .eq e 0#32) sub normal) sign).setWidth 16

/-- The numbers the two patterns denote. -/
def kval (c : BitVec 8) : EReal := Ideal.ofBits .fp8e5m2 (kbits c)
def rval (c : BitVec 32) : EReal := Ideal.ofBits .bf16 (rbits c)

theorem code_lt (h : Fin 4) (a b c : BitVec 8) : (code h a b c).toNat < 64 := by
  have ha := a.isLt; have hb := b.isLt; have hc := c.isLt
  match h with
  | 0 => exact Nat.lt_of_le_of_lt (by simp only [code, BitVec.toNat_and]; exact Nat.and_le_right) (by decide : 63 < 64)
  | 1 =>
    simp only [code, BitVec.toNat_or, BitVec.toNat_ushiftRight, BitVec.toNat_shiftLeft, BitVec.toNat_and]
    refine Nat.or_lt_two_pow (n := 6) ?_ ?_
    · rw [Nat.shiftRight_eq_div_pow]; omega
    · have : b.toNat &&& 15 ≤ 15 := Nat.and_le_right
      rw [show (15#8).toNat = 15 from rfl, Nat.shiftLeft_eq]; omega
  | 2 =>
    simp only [code, BitVec.toNat_or, BitVec.toNat_ushiftRight, BitVec.toNat_shiftLeft, BitVec.toNat_and]
    refine Nat.or_lt_two_pow (n := 6) ?_ ?_
    · rw [Nat.shiftRight_eq_div_pow]; omega
    · have : c.toNat &&& 3 ≤ 3 := Nat.and_le_right
      rw [show (3#8).toNat = 3 from rfl, Nat.shiftLeft_eq]; omega
  | 3 =>
    simp only [code, BitVec.toNat_ushiftRight, Nat.shiftRight_eq_div_pow]; omega

/-- Cutting a field commutes with widening. -/
theorem code32_eq (h : Fin 4) (a b c : BitVec 8) :
    code32 h (a.setWidth 32) (b.setWidth 32) (c.setWidth 32) = (code h a b c).setWidth 32 := by
  have p (x : BitVec 8) (i : Nat) (h : 8 ≤ i) : x.getLsbD i = false := BitVec.getLsbD_of_ge x i h
  match h with
  | 0 =>
    apply BitVec.eq_of_getLsbD_eq; intro i hi
    have hi : i < 32 := hi
    interval_cases i <;> simp [code32, code, IntOp.andi, p]
  | 1 =>
    apply BitVec.eq_of_getLsbD_eq; intro i hi
    have hi : i < 32 := hi
    interval_cases i <;> simp [code32, code, IntOp.ori, IntOp.andi, IntOp.shrui, IntOp.shli, p]
  | 2 =>
    apply BitVec.eq_of_getLsbD_eq; intro i hi
    have hi : i < 32 := hi
    interval_cases i <;> simp [code32, code, IntOp.ori, IntOp.andi, IntOp.shrui, IntOp.shli, p]
  | 3 =>
    apply BitVec.eq_of_getLsbD_eq; intro i hi
    have hi : i < 32 := hi
    interval_cases i <;> simp [code32, code, IntOp.ori, IntOp.andi, IntOp.shrui, IntOp.shli, p]

/-- The 64 codes: the reference's number is the kernel's times 4096. -/
theorem rval_fin (n : Fin 64) : rval (BitVec.ofNat 32 n.val) = kval (BitVec.ofNat 8 n.val) * ((4096 : ℝ) : EReal) := by
  fin_cases n <;>
    simp only [rval, kval, rbits, kbits, IntOp.andi, IntOp.shrui, IntOp.shli, IntOp.addi, IntOp.ori, IntOp.cmpi, Scalar.select] <;>
    simp [Ideal.ofBits, Ideal.ieee, -EReal.coe_mul] <;> (try rw [← EReal.coe_mul]) <;> (try norm_num [← EReal.coe_mul])

/-- The same at the fields of three packed bytes. -/
theorem rval_eq (h : Fin 4) (a b c : BitVec 8) :
    rval (code32 h (a.setWidth 32) (b.setWidth 32) (c.setWidth 32)) = kval (code h a b c) * ((4096 : ℝ) : EReal) := by
  rw [code32_eq]
  have hlt := code_lt h a b c
  generalize code h a b c = k at hlt
  have := rval_fin ⟨k.toNat, hlt⟩
  rw [BitVec.ofNat_toNat, BitVec.ofNat_toNat, BitVec.setWidth_eq] at this
  exact this

/-- The kernel's last factor. -/
theorem scale_eq : Ideal.ofBits .f32 0x45800000#32 = ((4096 : ℝ) : EReal) := by
  simp [Ideal.ofBits, Ideal.ieee, -EReal.coe_mul]; norm_num

end Cert.Decode

end
-- ==== Proof.Lanes.lean ====
/-
Words of four bytes. The kernel cuts the fields and adds the exponent offset on words; here each of these operations
is read byte by byte (`lane`): a field of a word is the field of its bytes, and the addition never carries out of a
byte since a field is below 64.
-/
module

public import proofs.«01_k».proof.Proof.Decode

@[expose] public section

noncomputable section

namespace Cert.Decode

open Idealize.ShloMosaic

/-- Byte `i` of a word. -/
def lane (w : BitVec 32) (i : Nat) : BitVec 8 := w.extractLsb' (8 * i) 8

/-- The fields of three words, cut in all bytes at once. -/
def wfld : Fin 4 → BitVec 32 → BitVec 32 → BitVec 32 → BitVec 32
  | 0, a, _, _ => a &&& 1061109567#32
  | 1, a, b, _ => ((a >>> 6) &&& 50529027#32) ||| ((b &&& 252645135#32) <<< 2)
  | 2, _, b, c => ((b >>> 4) &&& 252645135#32) ||| ((c &&& 50529027#32) <<< 4)
  | 3, _, _, c => (c >>> 2) &&& 1061109567#32

theorem lane_wfld (h : Fin 4) (a b c : BitVec 32) (i : Nat) (hi : i < 4) :
    lane (wfld h a b c) i = code h (lane a i) (lane b i) (lane c i) := by
  apply BitVec.eq_of_getLsbD_eq; intro j hj
  have hj : j < 8 := hj
  match h with
  | 0 => interval_cases i <;> interval_cases j <;> simp [lane, wfld, code]
  | 1 => interval_cases i <;> interval_cases j <;> simp [lane, wfld, code]
  | 2 => interval_cases i <;> interval_cases j <;> simp [lane, wfld, code]
  | 3 => interval_cases i <;> interval_cases j <;> simp [lane, wfld, code]

theorem lane_toNat (w : BitVec 32) (i : Nat) : (lane w i).toNat = w.toNat / 2 ^ (8 * i) % 256 := by
  simp [lane, BitVec.extractLsb'_toNat, Nat.shiftRight_eq_div_pow]

/-- The addition of the offset, byte by byte. -/
theorem lane_add (w : BitVec 32) (hw : ∀ i < 4, (lane w i).toNat < 64) (i : Nat) (hi : i < 4) :
    lane (w + 1616928864#32) i = lane w i + 0x60#8 := by
  apply BitVec.eq_of_toNat_eq
  have h0 := hw 0 (by omega); have h1 := hw 1 (by omega); have h2 := hw 2 (by omega); have h3 := hw 3 (by omega)
  have hlt := w.isLt
  rw [lane_toNat] at h0 h1 h2 h3
  rw [BitVec.toNat_add, lane_toNat, lane_toNat, BitVec.toNat_add]
  simp only [BitVec.toNat_ofNat]
  interval_cases i <;> norm_num at * <;> omega

theorem lane_and (w : BitVec 32) (i : Nat) (hi : i < 4) : lane (w &&& 2678038431#32) i = lane w i &&& 0x9F#8 := by
  apply BitVec.eq_of_getLsbD_eq; intro j hj
  have hj : j < 8 := hj
  interval_cases i <;> interval_cases j <;> simp [lane]

/-- A field spread to the float layout, byte by byte. -/
theorem lane_spread (h : Fin 4) (a b c : BitVec 32) (i : Nat) (hi : i < 4) :
    lane ((wfld h a b c + 1616928864#32) &&& 2678038431#32) i = kbits (code h (lane a i) (lane b i) (lane c i)) := by
  rw [lane_and _ _ hi, lane_add _ _ _ hi, lane_wfld _ _ _ _ _ hi]
  · rfl
  · intro k hk; rw [lane_wfld _ _ _ _ _ hk]; exact code_lt _ _ _ _

end Cert.Decode

end
-- ==== Proof.KVal.lean ====
/-
What the kernel body computes over the extended reals. Entry (r, n) of output plane `h` is the sum over the 12032
contraction positions of the input times the number the kernel reads off field `h` of the packed bytes, times 4096.
-/
module

public import proofs.«01_k».proof.Proof.Sound
public import proofs.«01_k».proof.Proof.Lanes
public import Idealize.ShloMosaic.Lib.MatmulPlain
public import Idealize.ShloMosaic.Lib.BitcastFour
public import Idealize.ShloMosaic.Lib.Pipeline.Value

@[expose] public section

noncomputable section

namespace Cert.KernelIdeal.Body

open Cert.KernelIdeal Cert.KernelIdeal.Gen Cert.Decode
open Idealize.ShloMosaic Idealize.ShloMosaic.ValueIdx
open Idealize.ShloMosaic.View (ld)
open scoped BigOperators

/-! ## One block of packed bytes -/

/-- Byte `i` of word (a, n) of a plane is the plane's byte at contraction position `4a + i`. -/
theorem word_lane (v : Vec Ideal S1x128x256 .i8) (a : Fin 64) (n : Fin 128) (i : Nat) (hi : i < 4) (k : Fin 256)
    (hk : k.val = 4 * a.val + i) : lane (word v (ix2 a n)) i = (v (ix3 0 n k) : BitVec 8) := by
  apply BitVec.eq_of_getLsbD_eq; intro j hj
  have hj : j < 8 := hj
  have e1 : (8 * i + j) / 8 = i := by omega
  have e2 : (8 * i + j) % 8 = j := by omega
  rw [lane, BitVec.getLsbD_extractLsb', word,
    bitcast_8_32_getLsbD_ix2 _ _ a n (8 * i + j) (by omega) k (by rw [e1, hk]), e2]
  rw [transpose_apply [1, 0] _ _ (ix2 k n) (ix2 n k) (fun b => by match b with | ⟨0, _⟩ => rfl | ⟨1, _⟩ => rfl)]
  rw [shapeCast_apply _ _ (ix2 n k) (ix3 (0 : Fin 1) n k) (by simp [Shape.rowMajor_val_two, Shape.rowMajor_val_three])]
  simp [hj]

/-- Field `h` of three planes, cut out of words. -/
def fldOf (h : Fin 4) (u v w : Vec Ideal S1x128x256 .i8) : IVec S64x128 32 :=
  fun i => wfld h (word u i) (word v i) (word w i)

/-- The decoded field at contraction position `k` and row `n`. -/
theorem dec_apply (h : Fin 4) (u v w : Vec Ideal S1x128x256 .i8) (k : Fin 256) (n : Fin 128) :
    dec (F := Ideal) (fldOf h u v w) (ix2 k n) = kval (code h (u (ix3 0 n k)) (v (ix3 0 n k)) (w (ix3 0 n k))) := by
  unfold dec kval
  change Ideal.ofBits .fp8e5m2 _ = _
  congr 1
  have ha : k.val / 4 < 64 := by have := k.isLt; omega
  have hk : k.val = 4 * (⟨k.val / 4, ha⟩ : Fin 64).val + k.val % 4 := by change k.val = 4 * (k.val / 4) + k.val % 4; omega
  have hi : k.val % 4 < 4 := Nat.mod_lt _ (by decide)
  rw [← word_lane u ⟨k.val / 4, ha⟩ n _ hi k hk, ← word_lane v ⟨k.val / 4, ha⟩ n _ hi k hk,
    ← word_lane w ⟨k.val / 4, ha⟩ n _ hi k hk, ← lane_spread h _ _ _ _ hi]
  apply BitVec.eq_of_getLsbD_eq; intro j hj
  have hj : j < 8 := hj
  rw [bitcast_getLsbD _ _ _ j hj (by decide), lane, BitVec.getLsbD_extractLsb']
  have hrow : Shape.row S256x128 (ix2 k n) = k.val := rfl
  have ep : (Shape.row S256x128 (ix2 k n) * 8 + j) / 32 = k.val / 4 := by rw [hrow]; omega
  have eq : (k.val * 8 + j) % 32 = 8 * (k.val % 4) + j := by omega
  simp only [hj, decide_true, Bool.true_and, hrow, eq]
  have hp : ∀ a : Fin S64x128.rank, a.val + 2 = S64x128.rank → k.val / 4 < S64x128.size a := fun a ha' => by
    have e : a = 0 := Fin.ext (by have : a.val + 2 = 2 := ha'; change a.val = 0; omega)
    subst e; exact ha
  have ei : Shape.Bitcasts.srcIdx bitcasts_S64x128_w32_S256x128_w8 (ix2 k n : S256x128.Idx) (k.val / 4) hp
      = ix2 (⟨k.val / 4, ha⟩ : Fin 64) n := by
    funext c
    match c with
    | ⟨0, _⟩ => exact Fin.ext (Shape.Bitcasts.srcIdx_row _ _ _ _ _ rfl)
    | ⟨1, _⟩ => exact Fin.ext (Shape.Bitcasts.srcIdx_other _ _ _ _ _ (fun h : 1 + 2 = 2 => absurd h (by decide)))
  rw [Shape.Bitcasts.srcIdx_congr _ _ ep _ hp, ei]
  rfl

/-- One accumulator's update, its left half and its right half. -/
theorem addProd_lo (acc : FVec Ideal S32x256 .f32) (x : Vec Ideal S32x256 .bf16) (f g : IVec S64x128 32) (r : Fin 32)
    (c : Fin 256) (n : Fin 128) (hc : c.val = n.val) :
    addProd acc x f g (ix2 r c) = acc (ix2 r c) + ∑ k : Fin 256, x (ix2 r k) * dec (F := Ideal) f (ix2 k n) := by
  unfold addProd
  rw [addf_apply]
  refine congrArg (acc (ix2 r c) + ·) ?_
  refine (Ideal.matmul_plain_apply none _ _ _ r c).trans ?_
  rw [constant_apply, Ideal.ofBits_zero_f32, zero_add]
  refine Finset.sum_congr rfl fun k _ => ?_
  rw [shapeCast_self]
  refine congrArg (x (ix2 r k) * ·) ?_
  exact concatenate_pair_apply_left (s₁ := S256x128) (s₂ := S256x128) (1 : Fin 2) _ _ _ (ix2 k c) rfl (ix2 k n)
    (fun b => by match b with | ⟨0, _⟩ => rfl | ⟨1, _⟩ => exact hc.symm)

theorem addProd_hi (acc : FVec Ideal S32x256 .f32) (x : Vec Ideal S32x256 .bf16) (f g : IVec S64x128 32) (r : Fin 32)
    (c : Fin 256) (n : Fin 128) (hc : c.val = 128 + n.val) :
    addProd acc x f g (ix2 r c) = acc (ix2 r c) + ∑ k : Fin 256, x (ix2 r k) * dec (F := Ideal) g (ix2 k n) := by
  unfold addProd
  rw [addf_apply]
  refine congrArg (acc (ix2 r c) + ·) ?_
  refine (Ideal.matmul_plain_apply none _ _ _ r c).trans ?_
  rw [constant_apply, Ideal.ofBits_zero_f32, zero_add]
  refine Finset.sum_congr rfl fun k _ => ?_
  rw [shapeCast_self]
  refine congrArg (x (ix2 r k) * ·) ?_
  exact concatenate_pair_apply_right (s₁ := S256x128) (s₂ := S256x128) (1 : Fin 2) _ _ _ (ix2 k c) rfl rfl (ix2 k n)
    (fun b hb => by match b with | ⟨0, _⟩ => rfl | ⟨1, _⟩ => exact absurd rfl hb)
    (by change n.val + 128 = c.val; omega)

/-! ## The loop -/

variable (X0 : S32x12032.Idx → EReal) (X1 : S3x128x12032.Idx → BitVec 8)

/-- One term of the contraction: the input times the decoded field, zero past the end. -/
def term (h : Fin 4) (r : Fin 32) (n : Fin 128) (K : Nat) : EReal :=
  if hK : K < 12032 then
    X0 (ix2 r ⟨K, hK⟩) * kval (code h (X1 (ix3 0 n ⟨K, hK⟩)) (X1 (ix3 1 n ⟨K, hK⟩)) (X1 (ix3 2 n ⟨K, hK⟩)))
  else 0

theorem ldW (h k : Nat) (hh : h < 3) (hk : k < 47) (n : Fin 128) (j : Fin 256) (hK : 256 * k + j.val < 12032) :
    ld (Val := Elt Ideal) (e' := .i8) X1 (rW h k hh hk) (ix3 0 n j) = X1 (ix3 ⟨h, hh⟩ n ⟨256 * k + j.val, hK⟩) := by
  refine congrArg X1 (funext fun a => Fin.ext ?_)
  match a with
  | ⟨0, _⟩ => change h + 1 * 0 = h; omega
  | ⟨1, _⟩ => change 0 + 1 * n.val = n.val; omega
  | ⟨2, _⟩ => change k * 256 + 1 * j.val = 256 * k + j.val; omega

theorem ldX (k : Nat) (hk : k < 47) (r : Fin 32) (j : Fin 256) (hK : 256 * k + j.val < 12032) :
    ld (Val := Elt Ideal) (e' := .bf16) X0 (rX k hk) (ix2 r j) = X0 (ix2 r ⟨256 * k + j.val, hK⟩) := by
  refine congrArg X0 (funext fun a => Fin.ext ?_)
  match a with
  | ⟨0, _⟩ => change 0 + 1 * r.val = r.val; omega
  | ⟨1, _⟩ => change k * 256 + 1 * j.val = 256 * k + j.val; omega

/-- A block's sum, in terms of the whole contraction. -/
theorem block_sum (h : Fin 4) (k : Nat) (hk : k < 47) (r : Fin 32) (n : Fin 128) :
    (∑ j : Fin 256, ld (Val := Elt Ideal) (e' := .bf16) X0 (rX k hk) (ix2 r j) * dec (F := Ideal)
      (fldOf h (ld X1 (rW 0 k (by decide) hk)) (ld X1 (rW 1 k (by decide) hk)) (ld X1 (rW 2 k (by decide) hk))) (ix2 j n))
      = ∑ j ∈ Finset.range 256, term X0 X1 h r n (256 * k + j) := by
  rw [Finset.sum_range]
  refine Finset.sum_congr rfl fun j _ => ?_
  have hK : 256 * k + j.val < 12032 := by have := j.isLt; omega
  rw [dec_apply, ldX X0 k hk r j hK, ldW X1 0 k _ hk n j hK, ldW X1 1 k _ hk n j hK, ldW X1 2 k _ hk n j hK, term, dif_pos hK]
  rfl

/-- Entry (r, n) of field `h` in the accumulators. -/
def ent (a : Acc Ideal) (h : Fin 4) (r : Fin 32) (n : Fin 128) : EReal :=
  match h with
  | 0 => a.p (ix2 r ⟨n.val, by have := n.isLt; omega⟩)
  | 1 => a.p (ix2 r ⟨128 + n.val, by have := n.isLt; omega⟩)
  | 2 => a.q (ix2 r ⟨n.val, by have := n.isLt; omega⟩)
  | 3 => a.q (ix2 r ⟨128 + n.val, by have := n.isLt; omega⟩)

theorem ent_upd (a : Acc Ideal) (h : Fin 4) (u v w : Vec Ideal S1x128x256 .i8) (x : Vec Ideal S32x256 .bf16) (r : Fin 32)
    (n : Fin 128) : ent (upd a u v w x) h r n
      = ent a h r n + ∑ j : Fin 256, x (ix2 r j) * dec (F := Ideal) (fldOf h u v w) (ix2 j n) := by
  match h with
  | 0 => exact addProd_lo a.p x (fldOf 0 u v w) (fldOf 1 u v w) r _ n rfl
  | 1 => exact addProd_hi a.p x (fldOf 0 u v w) (fldOf 1 u v w) r _ n rfl
  | 2 => exact addProd_lo a.q x (fldOf 2 u v w) (fldOf 3 u v w) r _ n rfl
  | 3 => exact addProd_hi a.q x (fldOf 2 u v w) (fldOf 3 u v w) r _ n rfl

theorem ent_accs (h : Fin 4) (r : Fin 32) (n : Fin 128) : ∀ (m k : Nat) (hk : k + m ≤ 47) (a : Acc Ideal),
    ent (accs (F := Ideal) X0 X1 m k hk a) h r n
      = ent a h r n + ∑ j ∈ Finset.range (256 * m), term X0 X1 h r n (256 * k + j)
  | 0, k, hk, a => by simp [accs]
  | m + 1, k, hk, a => by
    rw [accs, ent_accs h r n m (k + 1) _ _, ent_upd, block_sum X0 X1 h k (by omega), add_assoc]
    rw [show 256 * (m + 1) = 256 + 256 * m by omega, Finset.sum_range_add]
    simp only [show ∀ j, 256 * (k + 1) + j = 256 * k + (256 + j) from fun j => by omega]

theorem ent_zero (h : Fin 4) (r : Fin 32) (n : Fin 128) : ent (acc0 (F := Ideal)) h r n = 0 := by
  match h with
  | 0 => exact Ideal.ofBits_zero_f32
  | 1 => exact Ideal.ofBits_zero_f32
  | 2 => exact Ideal.ofBits_zero_f32
  | 3 => exact Ideal.ofBits_zero_f32

/-- The accumulators after the loop: the whole contraction. -/
theorem ent_accAll (h : Fin 4) (r : Fin 32) (n : Fin 128) : ent (accAll (F := Ideal) X0 X1) h r n
    = ∑ K : Fin 12032, X0 (ix2 r K) * kval (code h (X1 (ix3 0 n K)) (X1 (ix3 1 n K)) (X1 (ix3 2 n K))) := by
  rw [accAll, ent_accs, ent_zero, zero_add, show 256 * 47 = 12032 from rfl, Finset.sum_range]
  refine Finset.sum_congr rfl fun K _ => ?_
  simp only [Nat.mul_zero, Nat.zero_add]
  rw [term, dif_pos K.isLt]

/-! ## The stores -/

theorem lo_apply (v : FVec Ideal S32x256 .f32) (r : Fin 32) (n : Fin 128) (hn : n.val < 256) :
    lo v (ix3 0 r n) = v (ix2 r ⟨n.val, hn⟩) * ((4096 : ℝ) : EReal) := by
  unfold lo
  rw [shapeCast_apply _ _ (ix3 (0 : Fin 1) r n) (ix2 r n) (by simp [Shape.rowMajor_val_two, Shape.rowMajor_val_three]),
    mulf_apply, extractStridedSlice_apply _ _ _ (ix2 r n) (ix2 r (⟨n.val, hn⟩ : Fin 256))
      (fun a => by match a with | ⟨0, _⟩ => exact (Nat.zero_add _).symm | ⟨1, _⟩ => exact (Nat.zero_add _).symm)]
  exact congrArg (v _ * ·) scale_eq

theorem hi_apply (v : FVec Ideal S32x256 .f32) (r : Fin 32) (n : Fin 128) (hn : 128 + n.val < 256) :
    hi v (ix3 0 r n) = v (ix2 r ⟨128 + n.val, hn⟩) * ((4096 : ℝ) : EReal) := by
  unfold hi
  rw [shapeCast_apply _ _ (ix3 (0 : Fin 1) r n) (ix2 r n) (by simp [Shape.rowMajor_val_two, Shape.rowMajor_val_three]),
    mulf_apply, extractStridedSlice_apply _ _ _ (ix2 r n) (ix2 r (⟨128 + n.val, hn⟩ : Fin 256))
      (fun a => by match a with | ⟨0, _⟩ => exact (Nat.zero_add _).symm | ⟨1, _⟩ => rfl)]
  exact congrArg (v _ * ·) scale_eq

theorem emb_rO (h : Nat) (hh : h < 4) (r : Fin 32) (n : Fin 128) :
    (rO h hh).emb (ix3 (0 : Fin 1) r n) = (ix3 (⟨h, hh⟩ : Fin 4) r n : S4x32x128.Idx) := by
  funext a; apply Fin.ext
  match a with
  | ⟨0, _⟩ => change h + 1 * 0 = h; omega
  | ⟨1, _⟩ => change 0 + 1 * r.val = r.val; omega
  | ⟨2, _⟩ => change 0 + 1 * n.val = n.val; omega

theorem overlay_hit (h : Nat) (hh : h < 4) (Y : S4x32x128.Idx → EReal) (w : (rO h hh).shape.Idx → EReal) (r : Fin 32)
    (n : Fin 128) : (rO h hh).overlay Y w (ix3 ⟨h, hh⟩ r n) = w (ix3 (0 : Fin 1) r n) := by
  rw [← emb_rO h hh r n]; exact Rect.overlay_emb _ Y w _

theorem overlay_miss (h g : Nat) (hh : h < 4) (hg : g < 4) (hne : h ≠ g) (Y : S4x32x128.Idx → EReal)
    (w : (rO h hh).shape.Idx → EReal) (r : Fin 32)
    (n : Fin 128) : (rO h hh).overlay Y w (ix3 ⟨g, hg⟩ r n) = Y (ix3 ⟨g, hg⟩ r n) := by
  refine Rect.overlay_of_not_mem _ Y w fun hm => hne ?_
  rw [← Rect.map_emb_univ] at hm
  obtain ⟨i, -, e⟩ := Finset.mem_map.mp hm
  have e0 : h + 1 * (i 0).val = g := congrArg Fin.val (congrFun e 0)
  have : (i 0).val < 1 := (i 0).isLt
  omega

/-- The output block at (h, r, n). -/
theorem outOver_apply (a : Acc Ideal) (Y : S4x32x128.Idx → EReal) (h : Fin 4) (r : Fin 32) (n : Fin 128) :
    outOver a Y (ix3 h r n) = ent a h r n * ((4096 : ℝ) : EReal) := by
  unfold outOver
  match h with
  | 0 =>
    exact (overlay_miss 3 0 _ (by decide) (by decide) _ _ r n).trans <| (overlay_miss 2 0 _ (by decide) (by decide) _ _ r n).trans <|
      (overlay_miss 1 0 _ (by decide) (by decide) _ _ r n).trans <| (overlay_hit 0 (by decide) _ _ r n).trans (lo_apply a.p r n _)
  | 1 =>
    exact (overlay_miss 3 1 _ (by decide) (by decide) _ _ r n).trans <| (overlay_miss 2 1 _ (by decide) (by decide) _ _ r n).trans <|
      (overlay_hit 1 (by decide) _ _ r n).trans (hi_apply a.p r n _)
  | 2 =>
    exact (overlay_miss 3 2 _ (by decide) (by decide) _ _ r n).trans <| (overlay_hit 2 (by decide) _ _ r n).trans (lo_apply a.q r n _)
  | 3 => exact (overlay_hit 3 (by decide) _ _ r n).trans (hi_apply a.q r n _)

end Cert.KernelIdeal.Body

end
-- ==== Proof.Blocks.lean ====
/-
The blocks of the pipeline's 62 points. Point `t` reads rows 128t … of the packed array and writes columns 128t … of
the product array; at the last point only 32 of the 128 lie inside the arrays, and only those are named here.
-/
module

public import proofs.«01_k».proof.Proof.Frame
public import proofs.«01_k».proof.Proof.KVal
public import Idealize.ShloMosaic.Lib.Pipeline.ValueKit

@[expose] public section

set_option maxRecDepth 65536

noncomputable section

namespace Cert.KernelIdeal.Body

open Cert.KernelIdeal Cert.KernelIdeal.Gen Cert.Decode
open Idealize.ShloMosaic hiding ix1 ix2 ix3
open Idealize.ShloMosaic.TcCoe Idealize.ShloMosaic.ValueIdx
open Idealize.SL Idealize.SL.Sem
open Idealize.ShloMosaic.Pipeline (Dat Cfg Window)
open scoped BigOperators

/-! ## Where the blocks lie -/

/-- How many of a block's 128 rows lie inside the array. -/
def inside (t : Nat) : Nat := min 128 (7840 - 128 * t)

theorem geom_1 : ∀ t : Fin grid0.N, (win0_1.xsize (grid0.coords t) 0 = 3 ∧ win0_1.xsize (grid0.coords t) 1 = inside t.val
    ∧ win0_1.xsize (grid0.coords t) 2 = 12032)
    ∧ win0_1.index t 0 * 3 = 0 ∧ win0_1.index t 1 * 128 = 128 * t.val ∧ win0_1.index t 2 * 12032 = 0 := by
  decide +kernel

theorem geom_2 : ∀ t : Fin grid0.N, (win0_2.xsize (grid0.coords t) 0 = 4 ∧ win0_2.xsize (grid0.coords t) 1 = 32
    ∧ win0_2.xsize (grid0.coords t) 2 = inside t.val)
    ∧ win0_2.index t 0 * 4 = 0 ∧ win0_2.index t 1 * 32 = 0 ∧ win0_2.index t 2 * 128 = 128 * t.val := by
  decide +kernel

theorem N_eq : grid0.N = 62 := rfl

variable {m : (ℓ : Loc nD τ sig) → Buf (Elt Ideal) ℓ}

/-! ## What the blocks hold -/

/-- The input window's block is the whole input. -/
theorem iblk_0 (c : Dev nD) (t : Fin cfg0.N) (r : Fin 32) (K : Fin 12032) :
    iblk m c 0 t (ix2 r K) = V m c main_v0 (ix2 r K) := by
  refine congrArg (V m c main_v0) (funext fun a => Fin.ext ?_)
  match a with
  | ⟨0, _⟩ => change 0 * 32 + 1 * r.val = r.val; omega
  | ⟨1, _⟩ => change 0 * 12032 + 1 * K.val = K.val; omega

/-- The packed window's buffer, on the rows inside the array, whatever else it holds. -/
theorem fill_1 (c : Dev nD) (t : Fin cfg0.N) (d : S3x128x12032.Idx → BitVec 8) (p : Fin 3) (n : Fin 128) (K : Fin 12032)
    (hn : n.val < inside t.val) (n' : Fin 7840) (hn' : n'.val = 128 * t.val + n.val) :
    win0_1.fill (grid0.coords t) d (iblk m c 1 t) (ix3 p n K) = V m c main_v1 (ix3 p n' K) := by
  obtain ⟨⟨h0, h1, h2⟩, g0, g1, g2⟩ := geom_1 t
  have hmv : win0_1.moved (grid0.coords t) (ix3 p n K) = true := by
    refine (win0_1.moved_iff _ _).mpr fun a => ?_
    match a with
    | ⟨0, _⟩ => exact h0.symm ▸ p.isLt
    | ⟨1, _⟩ => exact h1.symm ▸ hn
    | ⟨2, _⟩ => exact h2.symm ▸ K.isLt
  unfold Window.fill
  rw [dif_pos hmv]
  refine congrArg (V m c main_v1) (funext fun a => Fin.ext ?_)
  match a with
  | ⟨0, _⟩ => change win0_1.index t 0 * 3 + 1 * p.val = p.val; omega
  | ⟨1, _⟩ => change win0_1.index t 1 * 128 + 1 * n.val = n'.val; omega
  | ⟨2, _⟩ => change win0_1.index t 2 * 12032 + 1 * K.val = K.val; omega

/-! ## The product array -/

/-- The product array's entry (h, r, n). -/
def prod (x : S32x12032.Idx → EReal) (w : S3x7840x12032.Idx → BitVec 8) (h : Fin 4) (r : Fin 32) (n : Fin 7840) : EReal :=
  (∑ K : Fin 12032, x (ix2 r K) * kval (code h (w (ix3 0 n K)) (w (ix3 1 n K)) (w (ix3 2 n K)))) * ((4096 : ℝ) : EReal)

/-- The product array. -/
def prodArr (x : S32x12032.Idx → EReal) (w : S3x7840x12032.Idx → BitVec 8) : S4x32x7840.Idx → EReal :=
  fun i => prod x w (i 0) (i 1) (i 2)

/-- The body's result at one entry, from what its two input buffers hold where the entry reads them. -/
theorem out_of (X0 : S32x12032.Idx → EReal) (X1 : S3x128x12032.Idx → BitVec 8) (Y : S4x32x128.Idx → EReal)
    (x : S32x12032.Idx → EReal) (w : S3x7840x12032.Idx → BitVec 8) (h : Fin 4) (r : Fin 32) (n : Fin 128) (n' : Fin 7840)
    (h0 : ∀ K, X0 (ix2 r K) = x (ix2 r K)) (h1 : ∀ p K, X1 (ix3 p n K) = w (ix3 p n' K)) :
    outOver (accAll (F := Ideal) X0 X1) Y (ix3 h r n) = prod x w h r n' := by
  rw [outOver_apply, ent_accAll, prod]
  congr 1
  refine Finset.sum_congr rfl fun K _ => ?_
  rw [h0, h1, h1, h1]

/-- What the body leaves in the output buffer, on the columns inside the array, whatever the packed buffer holds past
    the array's end. -/
theorem out_apply (c : Dev nD) (t : Fin cfg0.N) (d : S3x128x12032.Idx → BitVec 8) (Y : S4x32x128.Idx → EReal)
    (h : Fin 4) (r : Fin 32) (n : Fin 128) (hn : n.val < inside t.val) (n' : Fin 7840) (hn' : n'.val = 128 * t.val + n.val) :
    outOver (accAll (F := Ideal) (iblk m c 0 t) (win0_1.fill (grid0.coords t) d (iblk m c 1 t))) Y (ix3 h r n)
      = prod (V m c main_v0) (V m c main_v1) h r n' :=
  out_of _ _ Y _ _ h r n n' (iblk_0 c t r) (fun p K => fill_1 c t d p n K hn n' hn')

end Cert.KernelIdeal.Body

end
-- ==== Proof.KRun.lean ====
/-
The kernel's run over the extended reals, exactly: the product array ends holding, at (h, r, n), the contraction of the
input with field `h` of the packed bytes of row `n`, times 4096.
-/
module

public import proofs.«01_k».proof.Proof.Blocks

@[expose] public section

set_option maxRecDepth 65536

noncomputable section

namespace Cert.KernelIdeal.Body

open Cert.KernelIdeal Cert.KernelIdeal.Gen Cert.Decode
open Idealize.ShloMosaic hiding ix1 ix2 ix3
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable (m : (ℓ : Loc nD τ sig) → Buf (Elt Ideal) ℓ) (ρ : Dev nD → PrngReg)

/-- What the body leaves in the output buffer when the packed buffer holds zeros past the array's end. -/
def outV (c : Dev nD) (t : Fin cfg0.N) : S4x32x128.Idx → Elt Ideal .f32 :=
  outOver (accAll (F := Ideal) (iblk m c 0 t) (wfill m c t)) (fun _ => (0 : EReal))

/-- The product array of the two arrays the region finds. -/
def prodV (c : Dev nD) : S4x32x7840.Idx → EReal := prodArr (V m c main_v0) (V m c main_v1)

/-- The part of the output buffer inside the array is block `t` of the product array. -/
theorem cut_out (c : Dev nD) (t : Fin cfg0.N) (d : S3x128x12032.Idx → BitVec 8) (Y : S4x32x128.Idx → EReal) :
    win0_2.cut (grid0.coords t)
        (outOver (accAll (F := Ideal) (iblk m c 0 t) (win0_1.fill (grid0.coords t) d (iblk m c 1 t))) Y)
      = (win0_2.blk t).view.read (Elt Ideal) (prodV m c) := by
  obtain ⟨⟨h0, h1, h2⟩, g0, g1, g2⟩ := geom_2 t
  funext j
  have b0 : (j 0).val < 4 := h0 ▸ (j 0).isLt
  have b1 : (j 1).val < 32 := h1 ▸ (j 1).isLt
  have b2 : (j 2).val < inside t.val := h2 ▸ (j 2).isLt
  have b3 : (j 2).val < 128 := lt_of_lt_of_le b2 (Nat.min_le_left _ _)
  have b4 : 128 * t.val + (j 2).val < 7840 := by unfold inside at b2; omega
  refine Eq.trans ?_ ((out_apply (m := m) c t d Y ⟨(j 0).val, b0⟩ ⟨(j 1).val, b1⟩ ⟨(j 2).val, b3⟩ b2 ⟨128 * t.val + (j 2).val, b4⟩ rfl).trans ?_)
  · refine congrArg (outOver (F := Ideal) _ Y) (funext fun a => Fin.ext ?_)
    match a with
    | ⟨0, _⟩ => rfl
    | ⟨1, _⟩ => rfl
    | ⟨2, _⟩ => rfl
  · refine Eq.trans (b := prodV m c (ix3 ⟨(j 0).val, b0⟩ ⟨(j 1).val, b1⟩ ⟨128 * t.val + (j 2).val, b4⟩)) rfl ?_
    refine congrArg (prodV m c) (funext fun a => Fin.ext ?_)
    match a with
    | ⟨0, _⟩ => change (j 0).val = win0_2.index t 0 * 4 + 1 * (j 0).val; omega
    | ⟨1, _⟩ => change (j 1).val = win0_2.index t 1 * 32 + 1 * (j 1).val; omega
    | ⟨2, _⟩ => change 128 * t.val + (j 2).val = win0_2.index t 2 * 128 + 1 * (j 2).val; omega

theorem cut_outV (c : Dev nD) (t : Fin cfg0.N) :
    win0_2.cut (grid0.coords t) (outV m c t) = (win0_2.blk t).view.read (Elt Ideal) (prodV m c) :=
  cut_out m c t _ _

/-- The body at every point, exactly on the parts of the buffers inside the arrays. -/
theorem body_exact (c : Dev nD) :
    BodyObligationLoose (dats m (outV m) 0 c) (defs₀ (F := Ideal)) Variants.none () Set.univ := fun t => by
  rw [bigSep_W0, bigSep_W0]
  simp only
  rw [show (dats m (outV m) 0 c).Φ t.succ = (dats m (outV m) 0 c).Φ t.castSucc from rfl,
    show (dats m (outV m) 0 c).owesAt () t.succ = (dats m (outV m) 0 c).owesAt () t.castSucc from rfl]
  change _ ⊢ wp frame (wpE (defs₀ (F := Ideal)) Variants.none (c : Thread nD τ) none) Set.univ (bodyAt0 t) _
  unfold bodyAt0
  rw [body_eq]
  iintro ⟨HΦ, Ho, ⟨%d0, H0⟩, ⟨%d1, H1⟩, ⟨%d2, H2⟩⟩
  rw [before_0 m (outV m) c t d0, before_1 m (outV m) c t d1]
  iapply (body_wp c Set.univ (stage0_0 (cfg0.slots t 0)) (stage0_1 (cfg0.slots t 1)) (stage0_2 (cfg0.slots t 2)) (iblk m c 0 t)
    (win0_1.fill (grid0.coords t) d1 (iblk m c 1 t)) _ _) $$ [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexact H0
  isplitl [H1]
  · iexists d1
    change _ ⊢ owns (c : Thread nD τ) (stage0_1 (cfg0.slots t 1)) fullShare
      (win0_1.fill (grid0.coords t) d1 (win0_1.cut (grid0.coords t) (wfill m c t)))
    rw [show win0_1.cut (grid0.coords t) (wfill m c t) = iblk m c 1 t from win0_1.cut_fill _ _ _]
    try iexact H1
  · iexists outOver (accAll (F := Ideal) (iblk m c 0 t) (win0_1.fill (grid0.coords t) d1 (iblk m c 1 t))) ((dats m (outV m) 0 c).before (2 : Fin 3) t d2)
    change _ ⊢ owns (c : Thread nD τ) (stage0_2 (cfg0.slots t 2)) fullShare
      (win0_2.fill (grid0.coords t) _ (win0_2.cut (grid0.coords t) (outV m c t)))
    rw [win0_2.fill_congr_cut (grid0.coords t) ((cut_out m c t d1 _).trans (cut_outV m c t).symm)]
    try iexact H2

/-! ## The array after the run -/

theorem flushed_2 (c : Dev nD) (t : Fin cfg0.N) :
    (dats m (outV m) 0 c).flushed (2 : Fin 3) t = ((cfg0.win (2 : Fin 3)).blk t).view.read (Elt Ideal) (prodV m c) :=
  cut_outV m c t

/-- Column `n` lies in the block of point `n / 128`. -/
theorem cover_2 (i : S4x32x7840.Idx) : ∃ t : Fin cfg0.N, (cfg0.win (2 : Fin 3)).flush t = true ∧ i ∈ ((cfg0.win (2 : Fin 3)).blk t).view.set := by
  have i0 : (i 0).val < 4 := (i 0).isLt
  have i1 : (i 1).val < 32 := (i 1).isLt
  have i2 : (i 2).val < 7840 := (i 2).isLt
  let t : Fin grid0.N := ⟨(i 2).val / 128, by rw [N_eq]; omega⟩
  have ht : t.val = (i 2).val / 128 := rfl
  refine ⟨t, flush0_2 t, ?_⟩
  change i ∈ ((View.whole main_v2).slice (win0_2.rect t)).set
  erw [View.set_slice_whole]
  obtain ⟨⟨h0, h1, h2⟩, g0, g1, g2⟩ := geom_2 t
  refine (Pipeline.Window.mem_rect_iff win0_2 t i (by rfl)).mpr fun a => ?_
  match a with
  | ⟨0, _⟩ => change win0_2.index t 0 * 4 ≤ (i 0).val ∧ (i 0).val < win0_2.index t 0 * 4 + win0_2.xsize (grid0.coords t) 0; omega
  | ⟨1, _⟩ => change win0_2.index t 1 * 32 ≤ (i 1).val ∧ (i 1).val < win0_2.index t 1 * 32 + win0_2.xsize (grid0.coords t) 1; omega
  | ⟨2, _⟩ =>
    change win0_2.index t 2 * 128 ≤ (i 2).val ∧ (i 2).val < win0_2.index t 2 * 128 + win0_2.xsize (grid0.coords t) 2
    rw [h2, g2, ht]; unfold inside; omega

/-- The product array after the last write-back. -/
theorem final_2 (c : Dev nD) : (dats m (outV m) 0 c).arrAt (2 : Fin 3) cfg0.N = prodV m c :=
  (dats m (outV m) 0 c).arrAt_eq_of_cover (2 : Fin 3) (prodV m c) (fun t _ => flushed_2 m c t) cover_2

end Cert.KernelIdeal.Body

end
-- ==== Proof.KHost.lean ====
/-
The host operations around the kernel, over the extended reals: the input loses its middle axis and the packed array is
transposed before it; after it the product array is transposed, flattened and scaled.
-/
module

public import proofs.«01_k».proof.Proof.KRun

@[expose] public section

set_option maxRecDepth 65536

noncomputable section

namespace Cert.KernelIdeal.Body

open Cert.KernelIdeal Cert.KernelIdeal.Gen Cert.Decode
open Idealize.ShloMosaic hiding ix1 ix2 ix3
open Idealize.ShloMosaic.TcCoe Idealize.ShloMosaic.ValueIdx Idealize.ShloMosaic.Tactic
open Idealize.ShloMosaic.StableHlo
open Idealize.SL Idealize.SL.Sem
open Idealize.ShloMosaic.Pipeline (Dat Cfg Window)

variable (m : (ℓ : Loc nD τ sig) → Buf (Elt Ideal) ℓ)

/-! ## Before the kernel -/

theorem V_main_v0 (c : Dev nD) : V m c main_v0
    = shapeCast S32x12032 (m ((c : Thread nD τ).loc main_arg0) : S32x1x12032.Idx → EReal) shapeCasts_S32x1x12032_S32x12032 := by
  unfold V V0
  simp only [hostOps0, List.flatten_cons, List.flatten_nil, List.append_nil, List.cons_append, List.nil_append]
  after_results
  rfl

theorem V_main_v1 (c : Dev nD) : V m c main_v1
    = transpose S3x7840x12032 [2, 1, 0] (m ((c : Thread nD τ).loc main_arg1) : S12032x7840x3.Idx → BitVec 8)
        transposes_S12032x7840x3_S3x7840x12032_2_1_0 := by
  unfold V V0
  simp only [hostOps0, List.flatten_cons, List.flatten_nil, List.append_nil, List.cons_append, List.nil_append]
  after_results

theorem flat0 (x : S32x1x12032.Idx → EReal) (r : Fin 32) (K : Fin 12032) :
    shapeCast S32x12032 x shapeCasts_S32x1x12032_S32x12032 (ix2 r K) = x (ix3 r 0 K) :=
  shapeCast_apply _ _ _ _ (by simp [Shape.rowMajor_val_two, Shape.rowMajor_val_three])

theorem v0_apply (c : Dev nD) (r : Fin 32) (K : Fin 12032) :
    V m c main_v0 (ix2 r K) = (m ((c : Thread nD τ).loc main_arg0) : S32x1x12032.Idx → EReal) (ix3 r 0 K) := by
  rw [V_main_v0]
  exact flat0 _ r K

theorem v1_apply (c : Dev nD) (p : Fin 3) (n : Fin 7840) (K : Fin 12032) :
    V m c main_v1 (ix3 p n K) = (m ((c : Thread nD τ).loc main_arg1) : S12032x7840x3.Idx → BitVec 8) (ix3 K n p) := by
  rw [V_main_v1]
  exact transpose_apply [2, 1, 0] _ _ (ix3 p n K) (ix3 K n p)
    (fun b => by match b with | ⟨0, _⟩ => rfl | ⟨1, _⟩ => rfl | ⟨2, _⟩ => rfl)

/-! ## After the kernel -/

/-- The result from the product array and the scales. -/
def fin8 (A : S4x32x7840.Idx → EReal) (s : S31360.Idx → EReal) : S32x1x31360.Idx → EReal :=
  truncf (F := Ideal) .bf16 (mulf (F := Ideal) (φ := .f32)
    (shapeCast S32x1x31360 (transpose S32x7840x4 [1, 2, 0] A transposes_S4x32x7840_S32x7840x4_1_2_0) shapeCasts_S32x7840x4_S32x1x31360)
    (broadcastInDim S32x1x31360 ![0, 1, 2] bcast_S1x1x31360_S32x1x31360_0_1_2 (broadcastInDim S1x1x31360 ![2] bcast_S31360_S1x1x31360_2 s)))
    bitsLt_bf16_f32

/-- Entry (r, 4n + h) of the result. -/
theorem fin8_apply (A : S4x32x7840.Idx → EReal) (s : S31360.Idx → EReal) (h : Fin 4) (r : Fin 32) (n : Fin 7840) (o : Fin 31360)
    (ho : o.val = 4 * n.val + h.val) : fin8 A s (ix3 r 0 o) = A (ix3 h r n) * s (ix1 o) := by
  unfold fin8
  change (shapeCast S32x1x31360 _ _ (ix3 r 0 o) : EReal) * broadcastInDim S32x1x31360 _ _ _ (ix3 r 0 o) = _
  rw [shapeCast_apply _ _ (ix3 r 0 o) (ix3 r n h) (by
      rw [Shape.rowMajor_val_three, Shape.rowMajor_val_three]
      change (r.val * 7840 + n.val) * 4 + h.val = (r.val * 1 + 0) * 31360 + o.val; omega),
    transpose_apply [1, 2, 0] _ _ (ix3 r n h) (ix3 h r n) (fun b => by match b with | ⟨0, _⟩ => rfl | ⟨1, _⟩ => rfl | ⟨2, _⟩ => rfl)]
  congr 1
  refine congrArg s (funext fun a => ?_)
  match a with
  | ⟨0, _⟩ => rfl

theorem tail_v8 (dats : (p : Fin 1) → (c : Dev nD) → Dat τ (Elt Ideal) Unit ℕ (UR sig nD τ) ℕ (cfgs p) c) (c : Dev nD) :
    Pipeline.afterTail₀ cfgs dats 0 (V0 m) [hostOps1] c main_v8
      = fin8 ((dats 0 c).arrAt (2 : Fin 3) cfg0.N) (m ((c : Thread nD τ).loc main_arg2)) := by
  unfold Pipeline.afterTail₀
  simp only [hostOps1, List.flatten_cons, List.flatten_nil, List.append_nil, List.cons_append, List.nil_append]
  after_results
  have e2 := Pipeline.withArrays_arr (τ := τ) spec0 launch0.win.arr_inj c (V0 m c) (fun w => (dats 0 c).arrAt w cfg0.N) 2
  have e3 := Pipeline.withArrays_of_ne (τ := τ) spec0 c (V0 m c) (fun w => (dats 0 c).arrAt w cfg0.N) main_arg2
    (by exact (by decide : ∀ w, Pipeline.arrRef spec0 w ≠ main_arg2))
  rw [← (show V0 m c (Proc.devRef .tc main_arg2) = m ((c : Thread nD τ).loc main_arg2) from V_main_arg2 m c)]
  rw [← e2, ← e3]
  rfl

end Cert.KernelIdeal.Body

end
-- ==== Proof.RefVal.lean ====
/-
What the reference computes over the extended reals: entry (r, 4n + h) of the result is the sum over the 12032
contraction positions of the input times the number of field `h` of the packed bytes, times the entry's scale.
-/
module

public import proofs.«01_k».proof.Proof.Gen.ReferenceIdeal.Read
public import proofs.«01_k».proof.Proof.Decode
public import Idealize.ShloMosaic.Lib.ValueIdxCore

@[expose] public section

noncomputable section

namespace Cert.ReferenceIdeal.RefVal

open Cert.ReferenceIdeal Cert.ReferenceIdeal.Gen Cert.ReferenceIdeal.Read Cert.Decode
open Idealize.ShloMosaic Idealize.ShloMosaic.ValueIdx
open scoped BigOperators

variable (x0 : S32x1x12032.Idx → EReal) (x1 : S12032x7840x3.Idx → BitVec 8) (x2 : S31360.Idx → EReal)

/-! ## The codes -/

theorem byte0 (K : Fin 12032) (n : Fin 7840) : val_main_v2 (F := Ideal) x1 (ix2 K n) = (x1 (ix3 K n 0)).setWidth 32 := by
  rw [val_main_v2_apply, val_main_v1_apply, val_main_v0_apply]
  refine congrArg (fun i => (x1 i).setWidth 32) (funext fun a => Fin.ext ?_)
  have hK := K.isLt; have hn := n.isLt
  match a with
  | ⟨0, _⟩ => change (K.val * 7840 + n.val) / 7840 = K.val; omega
  | ⟨1, _⟩ => change (K.val * 7840 + n.val) / 1 % 7840 = n.val; omega
  | ⟨2, _⟩ => rfl

theorem byte1 (K : Fin 12032) (n : Fin 7840) : val_main_v5 (F := Ideal) x1 (ix2 K n) = (x1 (ix3 K n 1)).setWidth 32 := by
  rw [val_main_v5_apply, val_main_v4_apply, val_main_v3_apply]
  refine congrArg (fun i => (x1 i).setWidth 32) (funext fun a => Fin.ext ?_)
  have hK := K.isLt; have hn := n.isLt
  match a with
  | ⟨0, _⟩ => change (K.val * 7840 + n.val) / 7840 = K.val; omega
  | ⟨1, _⟩ => change (K.val * 7840 + n.val) / 1 % 7840 = n.val; omega
  | ⟨2, _⟩ => rfl

theorem byte2 (K : Fin 12032) (n : Fin 7840) : val_main_v8 (F := Ideal) x1 (ix2 K n) = (x1 (ix3 K n 2)).setWidth 32 := by
  rw [val_main_v8_apply, val_main_v7_apply, val_main_v6_apply]
  refine congrArg (fun i => (x1 i).setWidth 32) (funext fun a => Fin.ext ?_)
  have hK := K.isLt; have hn := n.isLt
  match a with
  | ⟨0, _⟩ => change (K.val * 7840 + n.val) / 7840 = K.val; omega
  | ⟨1, _⟩ => change (K.val * 7840 + n.val) / 1 % 7840 = n.val; omega
  | ⟨2, _⟩ => rfl

/-- The number of field `h` at contraction position `K` and group `n`. -/
def wt (h : Fin 4) (K : Fin 12032) (n : Fin 7840) : EReal :=
  rval (code32 h ((x1 (ix3 K n 0)).setWidth 32) ((x1 (ix3 K n 1)).setWidth 32) ((x1 (ix3 K n 2)).setWidth 32))

/-- The decoded weights, field by field, as the reference computes them. -/
theorem wt0 (K : Fin 12032) (n : Fin 7840) : val_main_v57 (F := Ideal) x1 (ix2 K n) = wt x1 0 K n := by
  unfold wt; rw [← byte0, ← byte1, ← byte2]; rfl
theorem wt1 (K : Fin 12032) (n : Fin 7840) : val_main_v89 (F := Ideal) x1 (ix2 K n) = wt x1 1 K n := by
  unfold wt; rw [← byte0, ← byte1, ← byte2]; rfl
theorem wt2 (K : Fin 12032) (n : Fin 7840) : val_main_v121 (F := Ideal) x1 (ix2 K n) = wt x1 2 K n := by
  unfold wt; rw [← byte0, ← byte1, ← byte2]; rfl
theorem wt3 (K : Fin 12032) (n : Fin 7840) : val_main_v153 (F := Ideal) x1 (ix2 K n) = wt x1 3 K n := by
  unfold wt; rw [← byte0, ← byte1, ← byte2]; rfl

/-! ## The products -/

/-- Entry (r, n) of field `h`'s product. -/
def dot (h : Fin 4) (r : Fin 32) (n : Fin 7840) : EReal := ∑ K : Fin 12032, x0 (ix3 r 0 K) * wt x1 h K n

theorem ridx (r : Fin 32) (n : Fin 7840) (K : Fin 12032) : ridx_main_v58 (ix3 r (0 : Fin 1) n) K = ix2 K n := by
  funext a; match a with | ⟨0, _⟩ => rfl | ⟨1, _⟩ => rfl
theorem lidx (r : Fin 32) (n : Fin 7840) (K : Fin 12032) : lidx_main_v58 (ix3 r (0 : Fin 1) n) K = ix3 r 0 K := by
  funext a; match a with | ⟨0, _⟩ => rfl | ⟨1, _⟩ => rfl | ⟨2, _⟩ => rfl

theorem dot0 (r : Fin 32) (n : Fin 7840) : val_main_v58 (F := Ideal) x0 x1 (ix3 r 0 n) = dot x0 x1 0 r n :=
  (val_main_v58_apply x0 x1 _).trans (Finset.sum_congr rfl fun K _ => by rw [lidx, ridx, wt0])
theorem dot1 (r : Fin 32) (n : Fin 7840) : val_main_v90 (F := Ideal) x0 x1 (ix3 r 0 n) = dot x0 x1 1 r n :=
  (val_main_v90_apply x0 x1 _).trans (Finset.sum_congr rfl fun K _ => by
    rw [← wt1, ← lidx r n K, ← ridx r n K])
theorem dot2 (r : Fin 32) (n : Fin 7840) : val_main_v122 (F := Ideal) x0 x1 (ix3 r 0 n) = dot x0 x1 2 r n :=
  (val_main_v122_apply x0 x1 _).trans (Finset.sum_congr rfl fun K _ => by
    rw [← wt2, ← lidx r n K, ← ridx r n K])
theorem dot3 (r : Fin 32) (n : Fin 7840) : val_main_v154 (F := Ideal) x0 x1 (ix3 r 0 n) = dot x0 x1 3 r n :=
  (val_main_v154_apply x0 x1 _).trans (Finset.sum_congr rfl fun K _ => by
    rw [← wt3, ← lidx r n K, ← ridx r n K])

/-! ## The result -/

theorem idx155 (r : Fin 32) (n : Fin 7840) : idx_main_v155 (ix4 r (0 : Fin 1) n (0 : Fin 1)) = ix3 r 0 n := by
  funext a; match a with | ⟨0, _⟩ => rfl | ⟨1, _⟩ => rfl | ⟨2, _⟩ => rfl

/-- The products as columns. -/
theorem col0 (r : Fin 32) (n : Fin 7840) : val_main_v155 (F := Ideal) x0 x1 (ix4 r 0 n 0) = dot x0 x1 0 r n :=
  (val_main_v155_apply (F := Ideal) x0 x1 _).trans ((congrArg (val_main_v58 (F := Ideal) x0 x1) (idx155 r n)).trans (dot0 x0 x1 r n))
theorem col1 (r : Fin 32) (n : Fin 7840) : val_main_v156 (F := Ideal) x0 x1 (ix4 r 0 n 0) = dot x0 x1 1 r n :=
  (val_main_v156_apply (F := Ideal) x0 x1 _).trans ((congrArg (val_main_v90 (F := Ideal) x0 x1) (idx155 r n)).trans (dot1 x0 x1 r n))
theorem col2 (r : Fin 32) (n : Fin 7840) : val_main_v157 (F := Ideal) x0 x1 (ix4 r 0 n 0) = dot x0 x1 2 r n :=
  (val_main_v157_apply (F := Ideal) x0 x1 _).trans ((congrArg (val_main_v122 (F := Ideal) x0 x1) (idx155 r n)).trans (dot2 x0 x1 r n))
theorem col3 (r : Fin 32) (n : Fin 7840) : val_main_v158 (F := Ideal) x0 x1 (ix4 r 0 n 0) = dot x0 x1 3 r n :=
  (val_main_v158_apply (F := Ideal) x0 x1 _).trans ((congrArg (val_main_v154 (F := Ideal) x0 x1) (idx155 r n)).trans (dot3 x0 x1 r n))

/-- Four columns stacked, read at an index. -/
theorem stack4 (y : Fin 4 → S32x1x7840x1.Idx → EReal)
    (hc : Shape.Concatenates [S32x1x7840x1, S32x1x7840x1, S32x1x7840x1, S32x1x7840x1] S32x1x7840x4 3)
    (h : Fin 4) (r : Fin 32) (n : Fin 7840) :
    concatenate S32x1x7840x4 3 [⟨S32x1x7840x1, y 0⟩, ⟨S32x1x7840x1, y 1⟩, ⟨S32x1x7840x1, y 2⟩, ⟨S32x1x7840x1, y 3⟩] hc
      (ix4 r (0 : Fin 1) n h) = y h (ix4 r (0 : Fin 1) n (0 : Fin 1)) := by
  refine concatenate_apply_piece (t := S32x1x7840x4) 3
    [⟨S32x1x7840x1, y 0⟩, ⟨S32x1x7840x1, y 1⟩, ⟨S32x1x7840x1, y 2⟩, ⟨S32x1x7840x1, y 3⟩] hc (ix4 r (0 : Fin 1) n h) h.val h.isLt
    S32x1x7840x1 (y h) ?_ rfl h.val ?_ (ix4 r (0 : Fin 1) n (0 : Fin 1)) ?_ rfl
  · fin_cases h <;> rfl
  · fin_cases h <;> rfl
  · intro b hb
    match b with
    | ⟨0, _⟩ => rfl
    | ⟨1, _⟩ => rfl
    | ⟨2, _⟩ => rfl
    | ⟨3, _⟩ => exact absurd rfl hb

/-- The four products stacked. -/
theorem stacked (h : Fin 4) (r : Fin 32) (n : Fin 7840) :
    val_main_v159 (F := Ideal) x0 x1 (ix4 r 0 n h) = dot x0 x1 h r n := by
  unfold val_main_v159
  refine (stack4 ![val_main_v155 (F := Ideal) x0 x1, val_main_v156 (F := Ideal) x0 x1, val_main_v157 (F := Ideal) x0 x1,
    val_main_v158 (F := Ideal) x0 x1] _ h r n).trans ?_
  match h with
  | 0 => exact col0 x0 x1 r n
  | 1 => exact col1 x0 x1 r n
  | 2 => exact col2 x0 x1 r n
  | 3 => exact col3 x0 x1 r n

/-- **The result at (r, 4n + h).** -/
theorem result (h : Fin 4) (r : Fin 32) (n : Fin 7840) (o : Fin 31360) (ho : o.val = 4 * n.val + h.val) :
    val_main_v164 (F := Ideal) x0 x1 x2 (ix3 r 0 o) = dot x0 x1 h r n * x2 (ix1 o) := by
  have e1 : val_main_v160 (F := Ideal) x0 x1 (ix3 r 0 o) = dot x0 x1 h r n := by
    rw [val_main_v160_apply, ← stacked]
    refine congrArg _ (funext fun a => Fin.ext ?_)
    have hr := r.isLt; have hn := n.isLt; have hh := h.isLt; have := o.isLt
    match a with
    | ⟨0, _⟩ => change ((r.val * 1 + 0) * 31360 + o.val) / 31360 = r.val; omega
    | ⟨1, _⟩ => rfl
    | ⟨2, _⟩ => change ((r.val * 1 + 0) * 31360 + o.val) / 4 % 7840 = n.val; omega
    | ⟨3, _⟩ => change ((r.val * 1 + 0) * 31360 + o.val) % 4 = h.val; omega
  have e2 : val_main_v162 (F := Ideal) x2 (ix3 r 0 o) = x2 (ix1 o) := by
    rw [val_main_v162_apply, val_main_v161_apply]
    exact congrArg x2 (funext fun a => by match a with | ⟨0, _⟩ => rfl)
  change val_main_v160 (F := Ideal) x0 x1 (ix3 r 0 o) * val_main_v162 (F := Ideal) x2 (ix3 r 0 o) = _
  rw [e1, e2]

end Cert.ReferenceIdeal.RefVal

end
-- ==== Proof.Equation.lean ====
/-
The kernel's result and the reference's are one function of the arguments. The kernel's number for a code is the
reference's divided by 4096, and the kernel multiplies the finished sum by 4096; a finite positive factor leaves a
finite sum of extended reals term by term.
-/
module

public import proofs.«01_k».proof.Proof.KHost
public import proofs.«01_k».proof.Proof.RefVal

@[expose] public section

set_option maxRecDepth 65536

noncomputable section

namespace Cert.Equation

open Idealize.ShloMosaic hiding ix1 ix2 ix3
open Idealize.ShloMosaic.TcCoe Idealize.ShloMosaic.ValueIdx
open Cert.KernelIdeal.Body Cert.ReferenceIdeal.RefVal Cert.Decode
open Cert.KernelIdeal Cert.KernelIdeal.Gen
open scoped BigOperators

/-- A finite nonnegative factor leaves a finite sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-- One entry of the product array is the reference's contraction. -/
theorem prod_eq_dot (x : Cert.KernelIdeal.S32x12032.Idx → EReal) (w : Cert.KernelIdeal.S3x7840x12032.Idx → BitVec 8)
    (x0 : Cert.ReferenceIdeal.S32x1x12032.Idx → EReal) (x1 : Cert.ReferenceIdeal.S12032x7840x3.Idx → BitVec 8)
    (hx : ∀ r K, x (ix2 r K) = x0 (ix3 r 0 K)) (hw : ∀ p n K, w (ix3 p n K) = x1 (ix3 K n p))
    (h : Fin 4) (r : Fin 32) (n : Fin 7840) : prod x w h r n = dot x0 x1 h r n := by
  unfold prod dot
  rw [sum_mul_real _ _ _ (by norm_num)]
  refine Finset.sum_congr rfl fun K _ => ?_
  unfold wt
  rw [rval_eq, hx, hw, hw, hw, mul_assoc]

/-- The result from the two arrays the kernel reads and the scales is the reference's result. -/
theorem fin8_eq (x : Cert.KernelIdeal.S32x12032.Idx → EReal) (w : Cert.KernelIdeal.S3x7840x12032.Idx → BitVec 8)
    (x0 : Cert.ReferenceIdeal.S32x1x12032.Idx → EReal) (x1 : Cert.ReferenceIdeal.S12032x7840x3.Idx → BitVec 8)
    (x2 : Cert.ReferenceIdeal.S31360.Idx → EReal)
    (hx : ∀ r K, x (ix2 r K) = x0 (ix3 r 0 K)) (hw : ∀ p n K, w (ix3 p n K) = x1 (ix3 K n p)) :
    fin8 (prodArr x w) x2 = Cert.ReferenceIdeal.Read.val_main_v164 (F := Ideal) x0 x1 x2 := by
  funext i
  have ho : (i 2).val < 31360 := (i 2).isLt
  have hi : i = ix3 (i 0) (0 : Fin 1) (i 2) := funext fun a => by
    match a with
    | ⟨0, _⟩ => rfl
    | ⟨1, _⟩ => exact Subsingleton.elim (α := Fin 1) _ _
    | ⟨2, _⟩ => rfl
  have e : (i 2).val = 4 * ((i 2).val / 4) + (i 2).val % 4 := by omega
  rw [hi]
  refine (fin8_apply (prodArr x w) x2 ⟨(i 2).val % 4, Nat.mod_lt _ (by decide)⟩ (i 0) ⟨(i 2).val / 4, by omega⟩ (i 2) e).trans ?_
  refine Eq.trans ?_ (result x0 x1 x2 ⟨(i 2).val % 4, Nat.mod_lt _ (by decide)⟩ (i 0) ⟨(i 2).val / 4, by omega⟩ (i 2) e).symm
  exact congrArg (· * x2 (ix1 (i 2))) (prod_eq_dot x w x0 x1 hx hw _ _ _)

end Cert.Equation

end
-- ==== Proof.lean ====
/-
The proof of `Cert.Claim`: the kernel, its idealization and the reference run to quiescence with their arguments
unchanged, the idealization is the kernel's own text, and over the extended reals the kernel's result is the reference's.
-/
module

public import proofs.«01_k».proof.Defs
public import proofs.«01_k».proof.Proof.KernelFrame
public import proofs.«01_k».proof.Proof.Equation
public import proofs.«01_k».proof.Proof.Gen.Kernel
public import proofs.«01_k».proof.Proof.Gen.ReferenceIdeal.Run
public import Idealize.ShloMosaic.Lib.Quiescent

@[expose] public section

set_option maxRecDepth 65536

noncomputable section

namespace Cert.Proof

open Idealize.ShloMosaic Idealize.ShloMosaic.TcCoe Idealize.SL.Sem
open Cert.KernelIdeal.Body

/-- The kernel as printed. -/
theorem frame_P : Cert.quiescent_Kernel (hKernel := Cert.Kernel.Gen.facts) := fun m g _ =>
  (show KernelFrame from kernelFrame_eq.mpr frame_at) m g

/-- The kernel over the extended reals. -/
theorem frame_PI : Cert.quiescent_KernelIdeal (hKernelIdeal := Cert.KernelIdeal.Gen.facts) := fun m g _ => frame_at m g

/-- The reference over the extended reals; it has no semaphore. -/
theorem frame_RI : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

namespace Kernel

open Cert.KernelIdeal Cert.KernelIdeal.Gen

/-- What the kernel's result ends at. -/
def out (m : (ℓ : Loc nD τ sig) → Buf (Elt Ideal) ℓ) (c : Dev nD) : Buf (Elt Ideal) ((c.tc : Thread nD τ).loc main_v8) :=
  fin8 (prodV m c) (m ((c : Thread nD τ).loc main_arg2))

set_option backward.isDefEq.respectTransparency.types false in
/-- The kernel's run over the extended reals, with its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine Pipeline.θ_run_frame_around (Q' := _) cfgs (dats m (outV m)) (0 : Fin 1) launch0 defs₀ Variants.none m ρ main
    (hbody := body_exact m) (hshare := fun c => (dats m (outV m) 0 c).share_full fun _ => rfl) (howed := fun _ _ => rfl)
    (V₀ := V0 m) (opss := [hostOps1]) (hsub := sfx_sub) (hfresh := sfx_fresh) (hkeep := sfx_keeps)
    (hmain := hmain m Variants.none) (hA := A_eq m (outV m)) (hΦ := fun _ _ => rfl) (hQ' := ?_)
  intro r h c
  refine ⟨?_, ?_, ?_, ?_⟩
  · refine ((h.1 c).2 main_v8 (Pipeline.mem_restRefs_of main_v8 (by decide) (by decide))).trans ?_
    rw [tail_v8 m (dats m (outV m)) c, final_2]
    rfl
  · exact ((h.1 c).2 main_arg0 (Pipeline.mem_restRefs_of main_arg0 (by decide) (by decide))).trans (W_main_arg0 m _ c)
  · exact ((h.1 c).2 main_arg1 (Pipeline.mem_restRefs_of main_arg1 (by decide) (by decide))).trans (W_main_arg1 m _ c)
  · exact ((h.1 c).2 main_arg2 (Pipeline.mem_restRefs_of main_arg2 (by decide) (by decide))).trans (W_main_arg2 m _ c)

/-- The kernel's result, as the reference's function of the arguments. -/
theorem out_eq (m : (ℓ : Loc nD τ sig) → Buf (Elt Ideal) ℓ) (c : Dev nD) :
    out m c = Cert.ReferenceIdeal.Read.val_main_v164 (F := Ideal) (m ((c.tc : Thread nD τ).loc main_arg0))
      (m ((c.tc : Thread nD τ).loc main_arg1)) (m ((c.tc : Thread nD τ).loc main_arg2)) :=
  Cert.Equation.fin8_eq (V m c main_v0) (V m c main_v1) (m ((c.tc : Thread nD τ).loc main_arg0))
    (m ((c.tc : Thread nD τ).loc main_arg1)) (m ((c.tc : Thread nD τ).loc main_arg2)) (v0_apply m c) (v1_apply m c)

end Kernel

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Kernel.out m c, Kernel.run m g, ?_⟩
  refine (θ_run (Cert.ReferenceIdeal.defs (F := Ideal)) _ _).mono (fun _ h c => ⟨(h c).1.trans ?_, (h c).2⟩)
    (Cert.ReferenceIdeal.Value.run (F := Ideal) m' g')
  rw [Cert.ReferenceIdeal.Read.val_main_v164_eq]
  refine Eq.trans ?_ (Kernel.out_eq m c).symm
  rw [← (hagree c).1, ← (hagree c).2.1, ← (hagree c).2.2]

theorem claim : Cert.Claim :=
  ⟨Cert.Kernel.Gen.facts, Cert.KernelIdeal.Gen.facts, Cert.ReferenceIdeal.Gen.facts, frame_P, frame_PI, frame_RI, trivial, algebraic⟩

end Cert.Proof

end
